-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x5120 : Shape := ⟨3, ![2, 1024, 5120]⟩
abbrev S2x1024x1536 : Shape := ⟨3, ![2, 1024, 1536]⟩
abbrev S1536x5120 : Shape := ⟨2, ![1536, 5120]⟩
abbrev S_ : Shape := ⟨0, ![]⟩

class Facts : Prop where
  bcast_S_S2x1024x5120 : S_.BroadcastsInDim S2x1024x5120 (![] : Fin 0 → Fin S2x1024x5120.rank)
  bcast_S_S2x1024x1536 : S_.BroadcastsInDim S2x1024x1536 (![] : Fin 0 → Fin S2x1024x1536.rank)

variable [Facts]

def fn {F : FTy → Type} [FloatOps F] (main_arg0 : FVec F S2x1024x5120 .bf16) (main_arg1 : FVec F S2x1024x1536 .bf16) (main_arg2 : FVec F S1536x5120 .f32) : IVec S2x1024x5120 1 × IVec S2x1024x1536 1 :=
  let main_v0 : FVec F S2x1024x5120 .bf16 := Host.absf main_arg0
  let main_cst : FVec F S_ .bf16 := constant S_ .bf16 0x7F7F#16
  let main_v1 : FVec F S2x1024x5120 .bf16 := broadcastInDim S2x1024x5120 ![] bcast_S_S2x1024x5120 main_cst
  let main_v2 : IVec S2x1024x5120 1 := cmpf .ole main_v0 main_v1
  let main_v3 : FVec F S2x1024x1536 .bf16 := Host.absf main_arg1
  let main_cst_0 : FVec F S_ .bf16 := constant S_ .bf16 0x7F7F#16
  let main_v4 : FVec F S2x1024x1536 .bf16 := broadcastInDim S2x1024x1536 ![] bcast_S_S2x1024x1536 main_cst_0
  let main_v5 : IVec S2x1024x1536 1 := cmpf .ole main_v3 main_v4
  (main_v2, main_v5)
-- ==== Kernel.lean ====
abbrev S2x1024x5120 : Shape := ⟨3, ![2, 1024, 5120]⟩
abbrev S2x1024x1536 : Shape := ⟨3, ![2, 1024, 1536]⟩
abbrev S1536x5120 : Shape := ⟨2, ![1536, 5120]⟩
abbrev S2048x5120 : Shape := ⟨2, ![2048, 5120]⟩
abbrev S2048x1536 : Shape := ⟨2, ![2048, 1536]⟩
abbrev S8x2x1536 : Shape := ⟨3, ![8, 2, 1536]⟩
abbrev S1536x2048 : Shape := ⟨2, ![1536, 2048]⟩
abbrev S256x1536 : Shape := ⟨2, ![256, 1536]⟩
abbrev S1x2x1536 : Shape := ⟨3, ![1, 2, 1536]⟩
abbrev S1536x256 : Shape := ⟨2, ![1536, 256]⟩
abbrev S128x1536 : Shape := ⟨2, ![128, 1536]⟩
abbrev S1536 : Shape := ⟨1, ![1536]⟩
abbrev S1x1536 : Shape := ⟨2, ![1, 1536]⟩
abbrev S1x1x1536 : Shape := ⟨3, ![1, 1, 1536]⟩
abbrev S1536x128 : Shape := ⟨2, ![1536, 128]⟩
abbrev S16x5120 : Shape := ⟨2, ![16, 5120]⟩
abbrev S2048x256 : Shape := ⟨2, ![2048, 256]⟩
abbrev S16x256 : Shape := ⟨2, ![16, 256]⟩
abbrev S128x256 : Shape := ⟨2, ![128, 256]⟩
abbrev S256 : Shape := ⟨1, ![256]⟩
abbrev S1x256 : Shape := ⟨2, ![1, 256]⟩
abbrev S256x256 : Shape := ⟨2, ![256, 256]⟩
abbrev S2x8x5120 : Shape := ⟨3, ![2, 8, 5120]⟩
abbrev S2x8x1536 : Shape := ⟨3, ![2, 8, 1536]⟩

abbrev nBuf : Space → Nat
  | .hbm => 15
  | .vmem => 20
  | .smem => 0
  | _ => 0

abbrev bufTy : (tb : Table) → Fin (tcTables nBuf tb) → BufTy
  | .hbm, ⟨0, _⟩ => ⟨S2x1024x5120, .bf16⟩
  | .hbm, ⟨1, _⟩ => ⟨S2x1024x1536, .bf16⟩
  | .hbm, ⟨2, _⟩ => ⟨S1536x5120, .f32⟩
  | .hbm, ⟨3, _⟩ => ⟨S2048x5120, .bf16⟩
  | .hbm, ⟨4, _⟩ => ⟨S2048x1536, .bf16⟩
  | .hbm, ⟨5, _⟩ => ⟨S2048x1536, .fp8e5m2⟩
  | .hbm, ⟨6, _⟩ => ⟨S8x2x1536, .f32⟩
  | .hbm, ⟨7, _⟩ => ⟨S1536x2048, .bf16⟩
  | .hbm, ⟨8, _⟩ => ⟨S1536x5120, .f32⟩
  | .hbm, ⟨9, _⟩ => ⟨S2048x5120, .fp8e4m3⟩
  | .hbm, ⟨10, _⟩ => ⟨S16x5120, .f32⟩
  | .hbm, ⟨11, _⟩ => ⟨S2x1024x5120, .fp8e4m3⟩
  | .hbm, ⟨12, _⟩ => ⟨S2x8x5120, .f32⟩
  | .hbm, ⟨13, _⟩ => ⟨S2x1024x1536, .fp8e5m2⟩
  | .hbm, ⟨14, _⟩ => ⟨S2x8x1536, .f32⟩
  | .local _ .vmem, ⟨0, _⟩ => ⟨S256x1536, .bf16⟩
  | .local _ .vmem, ⟨1, _⟩ => ⟨S256x1536, .bf16⟩
  | .local _ .vmem, ⟨2, _⟩ => ⟨S256x1536, .fp8e5m2⟩
  | .local _ .vmem, ⟨3, _⟩ => ⟨S256x1536, .fp8e5m2⟩
  | .local _ .vmem, ⟨4, _⟩ => ⟨S1x2x1536, .f32⟩
  | .local _ .vmem, ⟨5, _⟩ => ⟨S1x2x1536, .f32⟩
  | .local _ .vmem, ⟨6, _⟩ => ⟨S1536x256, .bf16⟩
  | .local _ .vmem, ⟨7, _⟩ => ⟨S1536x256, .bf16⟩
  | .local _ .vmem, ⟨8, _⟩ => ⟨S2048x256, .bf16⟩
  | .local _ .vmem, ⟨9, _⟩ => ⟨S2048x256, .bf16⟩
  | .local _ .vmem, ⟨10, _⟩ => ⟨S1536x2048, .bf16⟩
  | .local _ .vmem, ⟨11, _⟩ => ⟨S1536x256, .f32⟩
  | .local _ .vmem, ⟨12, _⟩ => ⟨S1536x256, .f32⟩
  | .local _ .vmem, ⟨13, _⟩ => ⟨S1536x256, .f32⟩
  | .local _ .vmem, ⟨14, _⟩ => ⟨S1536x256, .f32⟩
  | .local _ .vmem, ⟨15, _⟩ => ⟨S2048x256, .fp8e4m3⟩
  | .local _ .vmem, ⟨16, _⟩ => ⟨S2048x256, .fp8e4m3⟩
  | .local _ .vmem, ⟨17, _⟩ => ⟨S16x256, .f32⟩
  | .local _ .vmem, ⟨18, _⟩ => ⟨S16x256, .f32⟩
  | .local _ .vmem, ⟨19, _⟩ => ⟨S2048x256, .bf16⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1536x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1536x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x1024x5120 : Shape := ⟨3, ![2, 1024, 5120]⟩
abbrev S2x1024x1536 : Shape := ⟨3, ![2, 1024, 1536]⟩
abbrev S1536x5120 : Shape := ⟨2, ![1536, 5120]⟩
abbrev S2x8x5120 : Shape := ⟨3, ![2, 8, 5120]⟩
abbrev S2x8x1536 : Shape := ⟨3, ![2, 8, 1536]⟩
abbrev S2x8x128x5120 : Shape := ⟨4, ![2, 8, 128, 5120]⟩
abbrev S2x253x8x5120 : Shape := ⟨4, ![2, 253, 8, 5120]⟩
abbrev S2x1x8x5120 : Shape := ⟨4, ![2, 1, 8, 5120]⟩
abbrev S2x8x1x5120 : Shape := ⟨4, ![2, 8, 1, 5120]⟩
abbrev S2048x5120 : Shape := ⟨2, ![2048, 5120]⟩
abbrev S2x8x128x1536 : Shape := ⟨4, ![2, 8, 128, 1536]⟩
abbrev S2x253x8x1536 : Shape := ⟨4, ![2, 253, 8, 1536]⟩
abbrev S2x1x8x1536 : Shape := ⟨4, ![2, 1, 8, 1536]⟩
abbrev S2x8x1x1536 : Shape := ⟨4, ![2, 8, 1, 1536]⟩
abbrev S2048x1536 : Shape := ⟨2, ![2048, 1536]⟩

abbrev nBuf : Space → Nat
  | .hbm => 8
  | .vmem => 8
  | .smem => 0
  | _ => 0

abbrev bufTy : (tb : Table) → Fin (tcTables nBuf tb) → BufTy
  | .hbm, ⟨0, _⟩ => ⟨S2x1024x5120, .bf16⟩
  | .hbm, ⟨1, _⟩ => ⟨S2x1024x1536, .bf16⟩
  | .hbm, ⟨2, _⟩ => ⟨S1536x5120, .f32⟩
  | .hbm, ⟨3, _⟩ => ⟨S1536x5120, .f32⟩
  | .hbm, ⟨4, _⟩ => ⟨S2x1024x5120, .fp8e4m3⟩
  | .hbm, ⟨5, _⟩ => ⟨S2x8x5120, .f32⟩
  | .hbm, ⟨6, _⟩ => ⟨S2x1024x1536, .fp8e5m2⟩
  | .hbm, ⟨7, _⟩ => ⟨S2x8x1536, .f32⟩
  | .local _ .vmem, ⟨0, _⟩ => ⟨S2x1024x5120, .bf16⟩
  | .local _ .vmem, ⟨1, _⟩ => ⟨S2x1024x1536, .bf16⟩
  | .local _ .vmem, ⟨2, _⟩ => ⟨S1536x5120, .f32⟩
  | .local _ .vmem, ⟨3, _⟩ => ⟨S1536x5120, .f32⟩
  | .local _ .vmem, ⟨4, _⟩ => ⟨S2x1024x5120, .fp8e4m3⟩
  | .local _ .vmem, ⟨5, _⟩ => ⟨S2x8x5120, .f32⟩
  | .local _ .vmem, ⟨6, _⟩ => ⟨S2x1024x1536, .fp8e5m2⟩
  | .local _ .vmem, ⟨7, _⟩ => ⟨S2x8x1536, .f32⟩
  | _, _ => ⟨S2x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x1536 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Run.lean ====
module
public import proofs.«01_k».proof.Proof.Gen.KernelIdeal.Frame
@[expose] public section
set_option maxRecDepth 16384
noncomputable section

/-!
# The kernel's run

Every run ends with the five result arrays at the last contents of the fold through the program, `W4`, and the
arguments as they were.
-/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Value
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run, with the results read off the last contents. -/
theorem run : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v3_0 (by decide)), h c _ (mem_uc main_v4 (by decide)), h c _ (mem_uc main_v5 (by decide)),
       h c _ (mem_uc main_v6 (by decide)), h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Value
end
end
-- ==== Proof.Scale.lean ====
module
public import Idealize.ShloMosaic.Lib.Pointwise
public import Idealize.ShloMosaic.Lib.SortNet.Extract
@[expose] public section
noncomputable section

/-!
# The scale of one group: the exponent word of the kernel against the least power of two

A group is 128 numbers. `y` is its largest absolute value times the constant `1 / fmax`.

* The kernel finds the exponent field of `y` as a word, adds one to it and reads the word as a float: that is the scale. It
  subtracts the field from 253 and reads that word as a float: that is the multiplier of the codes.
* The reference takes the least of the powers `2 ^ k`, `-125 ≤ k ≤ 127`, above `y`, and divides 1 by it.

`scale_eq` and `inv_eq` say that these agree for `0 ≤ y < 2 ^ 126`.
-/

open Idealize.ShloMosaic

namespace Cert.Quant

/-! ## The two readings of a scale -/

/-- The threshold of field `f`: the float whose bits are `f << 23`. -/
abbrev thr (f : ℕ) : EReal := Ideal.ofBits .f32 (IntOp.shli .vector (BitVec.ofNat 32 f) 23#32)

/-- The kernel's exponent field of `y`: the largest `f` below 256 whose threshold is not above `y`. -/
def field (y : EReal) : BitVec 32 :=
  Finset.univ.fold IntOp.maxsi 2147483648#32 fun f : Fin 256 => if y < thr f then 0#32 else BitVec.ofNat 32 f

/-- The exponent field, with 126 in place of 0. -/
def fieldOr (y : EReal) : BitVec 32 := Scalar.select (IntOp.cmpi .eq (field y) 0#32) 126#32 (field y)

/-- The kernel's scale. -/
def kscale (y : EReal) : EReal := Ideal.ofBits .f32 (IntOp.shli .vector (IntOp.addi (fieldOr y) 1#32) 23#32)

/-- The kernel's multiplier. -/
def kinv (y : EReal) : EReal := Ideal.ofBits .f32 (IntOp.shli .vector (IntOp.subi 253#32 (fieldOr y)) 23#32)

/-- The reference's power of two number `k` of 253: `2 ^ (k - 125)`, as its program computes it. -/
abbrev pow2 (k : ℕ) : EReal :=
  FloatOps.exp2 (F := Ideal) (φ := .f32) (FloatOps.sitofp .f32 (IntOp.subi (BitVec.ofNat 32 k) 125#32))

/-- The reference's scale. -/
def rscale (y : EReal) : EReal :=
  if y < Ideal.ofBits .f32 0x00800000#32 then 1
  else Finset.univ.fold min (Ideal.ofBits .f32 0x7F800000#32) fun k : Fin 253 =>
    if y < pow2 k then pow2 k else Ideal.ofBits .f32 0x7F800000#32

/-! ## The constants as numbers -/

theorem thr_toNat (f : ℕ) (h : f < 256) : (IntOp.shli .vector (BitVec.ofNat 32 f) 23#32).toNat = f * 2 ^ 23 := by
  unfold IntOp.shli
  rw [if_pos (by decide)]
  simp only [BitVec.shiftLeft_eq', BitVec.toNat_shiftLeft, BitVec.toNat_ofNat, Nat.shiftLeft_eq, Nat.reducePow, Nat.reduceMod]
  omega

theorem thr_bits (f : Fin 256) :
    (IntOp.shli .vector (BitVec.ofNat 32 f) 23#32).extractLsb' 31 1 = 0#1
    ∧ ((IntOp.shli .vector (BitVec.ofNat 32 f) 23#32).extractLsb' 23 8).toNat = f
    ∧ ((IntOp.shli .vector (BitVec.ofNat 32 f) 23#32).extractLsb' 0 23).toNat = 0 := by
  have h := thr_toNat f f.isLt
  have hf := f.isLt
  refine ⟨BitVec.eq_of_toNat_eq ?_, ?_, ?_⟩ <;>
    rw [BitVec.extractLsb'_toNat, h, Nat.shiftRight_eq_div_pow] <;>
    (try simp only [BitVec.toNat_ofNat]) <;> omega

/-- A normal positive float of fraction 0 is the power of two of its exponent. -/
theorem ieee_pow (b : BitVec 32) (f : ℕ) (h0 : b.extractLsb' 31 1 = 0#1) (h1 : (b.extractLsb' 23 8).toNat = f)
    (h2 : (b.extractLsb' 0 23).toNat = 0) (hf : 1 ≤ f) (hf' : f ≤ 254) :
    Ideal.ieee 8 23 b = (((2 : ℝ) ^ ((f : ℤ) - 127) : ℝ) : EReal) := by
  have e : (2 : ℝ) ^ (((f : ℤ) - 127)) = (2 : ℝ) ^ (23 : ℕ) * (2 : ℝ) ^ ((f : ℤ) - 127 - 23) := by
    rw [← zpow_natCast, ← zpow_add₀ (by norm_num)]; congr 1; push_cast; ring
  have c1 : ¬ f = 2 ^ 8 - 1 := by omega
  have c2 : ¬ f = 0 := by omega
  unfold Ideal.ieee
  simp only [h0, h1, h2, c1, c2, if_false, e]
  norm_num

/-- The float of bits `f << 23` is `2 ^ (f - 127)`, for the fields of the normal numbers. -/
theorem thr_eq (f : ℕ) (h1 : 1 ≤ f) (h2 : f ≤ 254) : thr f = (((2 : ℝ) ^ ((f : ℤ) - 127) : ℝ) : EReal) :=
  have h := thr_bits ⟨f, by omega⟩
  ieee_pow _ f h.1 h.2.1 h.2.2 h1 h2

/-- Field 255 is infinity. -/
theorem thr_top : thr 255 = ⊤ := by
  obtain ⟨a, b, c⟩ := thr_bits ⟨255, by omega⟩
  simp only at a b c
  simp only [thr, Ideal.ofBits, Ideal.ieee, a, b, c]
  rfl

theorem inf_eq : Ideal.ofBits .f32 0x7F800000#32 = ⊤ := by
  simp [Ideal.ofBits, Ideal.ieee]

theorem negInf_eq : Ideal.ofBits .f32 0xFF800000#32 = ⊥ := by
  simp [Ideal.ofBits, Ideal.ieee]

theorem negInf_bf16 : Ideal.ofBits .bf16 0xFF80#16 = Ideal.ofBits .f32 0xFF800000#32 := by
  simp [Ideal.ofBits, Ideal.ieee]

theorem tiny_eq : Ideal.ofBits .f32 0x00800000#32 = (((2 : ℝ) ^ (-126 : ℤ) : ℝ) : EReal) := thr_eq 1 (by omega) (by omega)

/-- The reference's powers as numbers. -/
theorem pow2_eq (k : ℕ) (h : k < 253) : pow2 k = (((2 : ℝ) ^ ((k : ℤ) - 125) : ℝ) : EReal) := by
  have e : (IntOp.subi (BitVec.ofNat 32 k) 125#32).toInt = (k : ℤ) - 125 :=
    (by decide +kernel : ∀ k : Fin 253, (IntOp.subi (BitVec.ofNat 32 k) 125#32).toInt = ((k : ℕ) : ℤ) - 125) ⟨k, h⟩
  show Ideal.exp2 ((((IntOp.subi (BitVec.ofNat 32 k) 125#32).toInt : ℤ) : ℝ) : EReal) = _
  rw [e]
  show ((Real.rpow 2 (((k : ℤ) - 125 : ℤ) : ℝ) : ℝ) : EReal) = _
  congr 1
  exact Real.rpow_intCast 2 _

/-! ## The binade of `y` -/

theorem two_zpow_le {a b : ℤ} (h : a ≤ b) : (((2 : ℝ) ^ a : ℝ) : EReal) ≤ (((2 : ℝ) ^ b : ℝ) : EReal) :=
  EReal.coe_le_coe_iff.2 (zpow_le_zpow_right₀ (by norm_num) h)

/-- A number that is neither below `2 ^ -126` nor above `2 ^ (n - 126)` lies in one binade. -/
theorem binade (y : EReal) (h : (((2 : ℝ) ^ (-126 : ℤ) : ℝ) : EReal) ≤ y) : ∀ n : ℕ, y < (((2 : ℝ) ^ ((n : ℤ) - 126) : ℝ) : EReal) →
    ∃ e : ℕ, 1 ≤ e ∧ e ≤ n ∧ (((2 : ℝ) ^ ((e : ℤ) - 127) : ℝ) : EReal) ≤ y ∧ y < (((2 : ℝ) ^ ((e : ℤ) - 126) : ℝ) : EReal) := by
  intro n
  induction n with
  | zero => intro hn; exact absurd hn (not_lt.2 (by simpa using h))
  | succ n ih =>
    intro hn
    by_cases hc : y < (((2 : ℝ) ^ ((n : ℤ) - 126) : ℝ) : EReal)
    · obtain ⟨e, h1, h2, h3⟩ := ih hc
      exact ⟨e, h1, by omega, h3⟩
    · refine ⟨n + 1, by omega, le_rfl, ?_, hn⟩
      have := not_lt.1 hc
      rwa [show (((n + 1 : ℕ) : ℤ) - 127) = (n : ℤ) - 126 by push_cast; ring]

/-! ## The exponent field -/

/-- The kernel's field is `e`, if `y` is not below the thresholds up to `e` other than 0's and is below all later ones. -/
theorem field_eq (y : EReal) (e : ℕ) (he : e < 256) (h1 : e = 0 ∨ thr e ≤ y) (h2 : ∀ f : Fin 256, e < f → y < thr f) :
    field y = BitVec.ofNat 32 e := by
  obtain ⟨hi, hle, hmem⟩ := SortNet.fold_maxsi_spec (fun f : Fin 256 => if y < thr f then 0#32 else BitVec.ofNat 32 f)
    Finset.univ 2147483648#32
  change (2147483648#32).toInt ≤ (field y).toInt at hi
  change ∀ i ∈ Finset.univ, _ ≤ (field y).toInt at hle
  change field y = _ ∨ _ at hmem
  have small : ∀ f : ℕ, f < 256 → (BitVec.ofNat 32 f).toInt = f := fun f hf => by
    rw [BitVec.toInt_eq_toNat_of_lt (by rw [BitVec.toNat_ofNat]; omega), BitVec.toNat_ofNat]; omega
  have lo : (e : ℤ) ≤ (field y).toInt := by
    have := hle ⟨e, he⟩ (Finset.mem_univ _)
    simp only at this
    split at this
    · rcases h1 with rfl | h1
      · simpa using this
      · exact absurd ‹_› (not_lt.2 h1)
    · rwa [small e he] at this
  refine BitVec.eq_of_toInt_eq (le_antisymm ?_ (by rw [small e he]; exact lo))
  rw [small e he]
  rcases hmem with hm | ⟨f, -, hf⟩
  · rw [hm] at lo
    have : (2147483648#32 : BitVec 32).toInt < 0 := by decide
    omega
  · change field y = (if y < thr f then 0#32 else BitVec.ofNat 32 f) at hf
    rw [hf]
    split
    · simp
    · rw [small f f.isLt]
      by_contra hc
      exact absurd (h2 f (by omega)) ‹_›

/-- Every threshold after `e` is above `y`, where `y` is below the next one. -/
theorem lt_thr (y : EReal) (e : ℕ) (he : e ≤ 253) (h : y < (((2 : ℝ) ^ ((e : ℤ) - 126) : ℝ) : EReal)) (f : Fin 256) (hf : e < f) :
    y < thr f := by
  by_cases h255 : (f : ℕ) = 255
  · rw [h255, thr_top]; exact h.trans_le le_top
  · rw [thr_eq f (by omega) (by have := f.isLt; omega)]
    exact h.trans_le (two_zpow_le (by omega))

/-! ## The least power -/

/-- A fold of minimum is at most the start and every entry, and is one of them. -/
theorem fold_min_spec {n : ℕ} (g : Fin n → EReal) (b : EReal) :
    (∀ i, Finset.univ.fold min b g ≤ g i) ∧ (Finset.univ.fold min b g = b ∨ ∃ i, Finset.univ.fold min b g = g i) := by
  have key : ∀ s : Finset (Fin n), (∀ i ∈ s, s.fold min b g ≤ g i) ∧ (s.fold min b g = b ∨ ∃ i, s.fold min b g = g i) := by
    intro s
    induction s using Finset.induction_on with
    | empty => exact ⟨fun i hi => absurd hi (Finset.notMem_empty i), Or.inl Finset.fold_empty⟩
    | insert a s has ih =>
      rw [Finset.fold_insert has]
      refine ⟨fun i hi => ?_, ?_⟩
      · rcases Finset.mem_insert.1 hi with rfl | hi
        · exact min_le_left _ _
        · exact (min_le_right _ _).trans (ih.1 i hi)
      · rcases min_choice (g a) (s.fold min b g) with h | h
        · exact Or.inr ⟨a, h⟩
        · rw [h]; exact ih.2
  exact ⟨fun i => (key Finset.univ).1 i (Finset.mem_univ i), (key Finset.univ).2⟩

/-- In the binade of field `e` the reference's scale is `2 ^ (e - 126)`. -/
theorem rscale_eq (y : EReal) (e : ℕ) (h1 : 1 ≤ e) (h2 : e ≤ 253) (hlo : (((2 : ℝ) ^ ((e : ℤ) - 127) : ℝ) : EReal) ≤ y)
    (hhi : y < (((2 : ℝ) ^ ((e : ℤ) - 126) : ℝ) : EReal)) : rscale y = (((2 : ℝ) ^ ((e : ℤ) - 126) : ℝ) : EReal) := by
  have hn : ¬ y < Ideal.ofBits .f32 0x00800000#32 := by
    rw [tiny_eq]; exact not_lt.2 ((two_zpow_le (by omega)).trans hlo)
  unfold rscale
  rw [if_neg hn]
  obtain ⟨hle, hmem⟩ := fold_min_spec (fun k : Fin 253 => if y < pow2 k then pow2 k else Ideal.ofBits .f32 0x7F800000#32)
    (Ideal.ofBits .f32 0x7F800000#32)
  have up := hle ⟨e - 1, by omega⟩
  have hp : pow2 (e - 1) = (((2 : ℝ) ^ ((e : ℤ) - 126) : ℝ) : EReal) := by
    rw [pow2_eq _ (by omega)]; congr 2; omega
  simp only [hp, if_pos hhi] at up
  refine le_antisymm up ?_
  rcases hmem with hm | ⟨k, hk⟩
  · rw [hm, inf_eq]; exact le_top
  · rw [hk]
    split
    · rename_i hy
      rw [pow2_eq k k.isLt] at hy ⊢
      have := EReal.coe_lt_coe_iff.1 (hlo.trans_lt hy)
      have := (zpow_lt_zpow_iff_right₀ (by norm_num : (1 : ℝ) < 2)).1 this
      exact two_zpow_le (by omega)
    · rw [inf_eq]; exact le_top

/-! ## The two readings agree -/

theorem fieldOr_of (y : EReal) (e : ℕ) (he : e < 256) (h : field y = BitVec.ofNat 32 e) :
    fieldOr y = BitVec.ofNat 32 (if e = 0 then 126 else e) := by
  unfold fieldOr
  rw [h]
  by_cases h0 : e = 0
  · subst h0; rfl
  · rw [if_neg h0]
    have : BitVec.ofNat 32 e ≠ 0#32 := fun hc => h0 (by
      have := congrArg BitVec.toNat hc
      rw [BitVec.toNat_ofNat, BitVec.toNat_ofNat] at this
      omega)
    have hb : (BitVec.ofNat 32 e == 0#32) = false := by simpa using this
    simp [Scalar.select, IntOp.cmpi, hb]

/-- The kernel's scale and multiplier are a power of two and its inverse, the power being the reference's scale. -/
theorem scale_inv (y : EReal) (hy : y < (((2 : ℝ) ^ (126 : ℤ) : ℝ) : EReal)) :
    ∃ n : ℤ, rscale y = (((2 : ℝ) ^ n : ℝ) : EReal) ∧ kscale y = (((2 : ℝ) ^ n : ℝ) : EReal)
      ∧ kinv y = (((2 : ℝ) ^ (-n) : ℝ) : EReal) := by
  have main : ∀ e : ℕ, 1 ≤ e → e ≤ 252 → fieldOr y = BitVec.ofNat 32 e →
      kscale y = (((2 : ℝ) ^ ((e : ℤ) - 126) : ℝ) : EReal) ∧ kinv y = (((2 : ℝ) ^ (-((e : ℤ) - 126)) : ℝ) : EReal) := by
    intro e h1 h2 hf
    unfold kscale kinv
    rw [hf]
    have a : IntOp.addi (BitVec.ofNat 32 e) 1#32 = BitVec.ofNat 32 (e + 1) := by
      apply BitVec.eq_of_toNat_eq
      show (BitVec.ofNat 32 e + 1#32).toNat = _
      simp only [BitVec.toNat_add, BitVec.toNat_ofNat]; omega
    have b : IntOp.subi 253#32 (BitVec.ofNat 32 e) = BitVec.ofNat 32 (253 - e) := by
      apply BitVec.eq_of_toNat_eq
      show (253#32 - BitVec.ofNat 32 e).toNat = _
      simp only [BitVec.toNat_sub, BitVec.toNat_ofNat]; omega
    rw [a, b]
    refine ⟨(thr_eq (e + 1) (by omega) (by omega)).trans ?_, (thr_eq (253 - e) (by omega) (by omega)).trans ?_⟩ <;>
      congr 2 <;> omega
  by_cases ht : y < (((2 : ℝ) ^ (-126 : ℤ) : ℝ) : EReal)
  · have hf : field y = BitVec.ofNat 32 0 := field_eq y 0 (by omega) (Or.inl rfl) fun f hf =>
      lt_thr y 0 (by omega) (by simpa using ht) f hf
    obtain ⟨a, b⟩ := main 126 (by omega) (by omega) (by simpa using fieldOr_of y 0 (by omega) hf)
    refine ⟨0, ?_, by simpa using a, by simpa using b⟩
    unfold rscale
    rw [tiny_eq, if_pos ht]
    simp
  · obtain ⟨e, h1, h2, hlo, hhi⟩ := binade y (not_lt.1 ht) 252 (by simpa using hy)
    have hf : field y = BitVec.ofNat 32 e := field_eq y e (by omega)
      (Or.inr (by rw [thr_eq e h1 (by omega)]; exact hlo)) fun f hf => lt_thr y e (by omega) hhi f hf
    have hfo := fieldOr_of y e (by omega) hf
    rw [if_neg (by omega)] at hfo
    obtain ⟨a, b⟩ := main e h1 h2 hfo
    exact ⟨_, rscale_eq y e h1 (by omega) hlo hhi, a, b⟩

/-- The kernel's scale is the reference's. -/
theorem scale_eq (y : EReal) (hy : y < (((2 : ℝ) ^ (126 : ℤ) : ℝ) : EReal)) : kscale y = rscale y := by
  obtain ⟨n, a, b, -⟩ := scale_inv y hy
  rw [a, b]

/-- The kernel's multiplier is 1 over the reference's scale. -/
theorem inv_eq (y : EReal) (hy : y < (((2 : ℝ) ^ (126 : ℤ) : ℝ) : EReal)) : kinv y = Ideal.div 1 (rscale y) := by
  obtain ⟨n, a, -, b⟩ := scale_inv y hy
  have hne : ((2 : ℝ) ^ n) ≠ 0 := zpow_ne_zero _ (by norm_num)
  rw [a, b]
  unfold Ideal.div
  rw [if_neg (by exact_mod_cast hne), one_mul, ← EReal.coe_inv, zpow_neg]

end Cert.Quant
end
end
-- ==== Proof.Column.lean ====
module
public import proofs.«01_k».proof.Proof.Scale
@[expose] public section
noncomputable section

/-!
# One column of one group

A column is the 128 numbers of one channel in one group of tokens. The functions here say what the kernel and the reference
make of a column and of one of its numbers: the scale, the code, and the wide value (the code times the scale). `c` is the
constant `1 / fmax` as the program holds it, and `lo`, `hi` are the bounds of the clip.
-/

open Idealize.ShloMosaic

namespace Cert.Quant

/-- The row with place `r` in the group of row `n`. -/
def rowOf {R : ℕ} (h : 128 ∣ R) (n : Fin R) (r : Fin 128) : Fin R := ⟨n.val / 128 * 128 + r.val, by
  have := n.isLt; have := r.isLt; omega⟩

/-- The row with place `r` in group `g`. -/
def rowAt {G R : ℕ} (h : G * 128 = R) (g : Fin G) (r : Fin 128) : Fin R := ⟨g.val * 128 + r.val, by
  have := g.isLt; have := r.isLt; omega⟩

/-- The largest absolute value of a column. -/
def amax (col : Fin 128 → EReal) : EReal :=
  Finset.univ.fold max (Ideal.ofBits .f32 0xFF800000#32) fun r => max (col r) (-(col r))

/-- The kernel's scale of a column. -/
def kScale (c : EReal) (col : Fin 128 → EReal) : EReal := kscale (amax col * c)

/-- The kernel's code of a number of the column. -/
def kCode (c lo hi : EReal) (col : Fin 128 → EReal) (v : EReal) : EReal := min hi (max lo (v * kinv (amax col * c)))

/-- The kernel's wide value of a number of the column. -/
def kWide (c lo hi : EReal) (col : Fin 128 → EReal) (v : EReal) : EReal := kCode c lo hi col v * kScale c col

/-- The reference's scale of a column. -/
def rScale (c : EReal) (col : Fin 128 → EReal) : EReal := rscale (amax col * c)

/-- The reference's code of a number of the column. -/
def rCode (c lo hi : EReal) (col : Fin 128 → EReal) (v : EReal) : EReal := min hi (max lo (v * Ideal.div 1 (rScale c col)))

/-- The reference's wide value of a number of the column. -/
def rWide (c lo hi : EReal) (col : Fin 128 → EReal) (v : EReal) : EReal := rCode c lo hi col v * rScale c col

/-! ## The constants -/

/-- A normal float by its three fields. -/
theorem ieee_normal (e m : ℕ) {w : ℕ} (b : BitVec w) (neg : Bool) (ex fr : ℕ) (h0 : (b.extractLsb' (e + m) 1 == 1#1) = neg)
    (h1 : (b.extractLsb' m e).toNat = ex) (h2 : (b.extractLsb' 0 m).toNat = fr) (hx : ex ≠ 2 ^ e - 1) (hx0 : ex ≠ 0) :
    Ideal.ieee e m b = (((if neg then -1 else 1 : ℝ) * ((2 ^ m + fr : ℕ) : ℝ) * (2 : ℝ) ^ ((ex : ℤ) - (2 ^ (e - 1) - 1) - m) : ℝ) : EReal) := by
  subst h0 h1 h2
  unfold Ideal.ieee
  simp only [hx, hx0, if_false]

/-- The largest finite bf16 number. -/
abbrev big : EReal := Ideal.ofBits .bf16 0x7F7F#16

theorem big_eq : big = (((255 : ℝ) * 2 ^ 120 : ℝ) : EReal) := by
  refine (ieee_normal 8 7 0x7f7f#16 false 254 127 (by decide) (by decide) (by decide) (by decide) (by decide)).trans ?_
  norm_num

/-- `1 / 448` and the bounds of the clip for `x`; `1 / 57344` and the bounds for `dy`. -/
abbrev cX : EReal := Ideal.ofBits .f32 0x3B124925#32
abbrev loX : EReal := Ideal.ofBits .f32 0xC3E00000#32
abbrev hiX : EReal := Ideal.ofBits .f32 0x43E00000#32
abbrev cDy : EReal := Ideal.ofBits .f32 0x37924925#32
abbrev loDy : EReal := Ideal.ofBits .f32 0xC7600000#32
abbrev hiDy : EReal := Ideal.ofBits .f32 0x47600000#32

theorem loX_bf16 : Ideal.ofBits .bf16 0xC3E0#16 = loX := by
  refine (ieee_normal 8 7 0xc3e0#16 true 135 96 (by decide) (by decide) (by decide) (by decide) (by decide)).trans ((ieee_normal 8 23 0xc3e00000#32 true 135 6291456 (by decide) (by decide) (by decide) (by decide) (by decide)).trans ?_).symm
  norm_num
theorem hiX_bf16 : Ideal.ofBits .bf16 0x43E0#16 = hiX := by
  refine (ieee_normal 8 7 0x43e0#16 false 135 96 (by decide) (by decide) (by decide) (by decide) (by decide)).trans ((ieee_normal 8 23 0x43e00000#32 false 135 6291456 (by decide) (by decide) (by decide) (by decide) (by decide)).trans ?_).symm
  norm_num
theorem loDy_bf16 : Ideal.ofBits .bf16 0xC760#16 = loDy := by
  refine (ieee_normal 8 7 0xc760#16 true 142 96 (by decide) (by decide) (by decide) (by decide) (by decide)).trans ((ieee_normal 8 23 0xc7600000#32 true 142 6291456 (by decide) (by decide) (by decide) (by decide) (by decide)).trans ?_).symm
  norm_num
theorem hiDy_bf16 : Ideal.ofBits .bf16 0x4760#16 = hiDy := by
  refine (ieee_normal 8 7 0x4760#16 false 142 96 (by decide) (by decide) (by decide) (by decide) (by decide)).trans ((ieee_normal 8 23 0x47600000#32 false 142 6291456 (by decide) (by decide) (by decide) (by decide) (by decide)).trans ?_).symm
  norm_num

theorem cX_small : ∃ r : ℝ, cX = (r : EReal) ∧ 0 ≤ r ∧ r ≤ 1 / 8 := by
  refine ⟨9586981 * 2 ^ (-32 : ℤ), (ieee_normal 8 23 0x3b124925#32 false 118 1198373 (by decide) (by decide) (by decide) (by decide) (by decide)).trans (by norm_num), by positivity, by norm_num⟩

theorem cDy_small : ∃ r : ℝ, cDy = (r : EReal) ∧ 0 ≤ r ∧ r ≤ 1 / 8 := by
  refine ⟨9586981 * 2 ^ (-39 : ℤ), (ieee_normal 8 23 0x37924925#32 false 111 1198373 (by decide) (by decide) (by decide) (by decide) (by decide)).trans (by norm_num), by positivity, by norm_num⟩

/-! ## The two agree on columns of finite numbers -/

/-- A fold of maximum is at most a bound of the start and of every entry. -/
theorem fold_max_le {n : ℕ} (g : Fin n → EReal) (b M : EReal) (hb : b ≤ M) (h : ∀ i, g i ≤ M) : Finset.univ.fold max b g ≤ M := by
  rw [Finset.fold_max_le]
  exact ⟨hb, fun i _ => h i⟩

/-- The largest absolute value is not negative. -/
theorem amax_nonneg (col : Fin 128 → EReal) : 0 ≤ amax col := by
  unfold amax
  rw [Finset.le_fold_max]
  refine Or.inr ⟨0, Finset.mem_univ _, ?_⟩
  rcases le_total 0 (col 0) with h | h
  · exact h.trans (le_max_left _ _)
  · exact (EReal.neg_nonneg.2 h).trans (le_max_right _ _)

/-- Where every number of the column is finite, the product read by the scale is far below `2 ^ 126`. -/
theorem amax_lt (c : EReal) (hc : ∃ r : ℝ, c = (r : EReal) ∧ 0 ≤ r ∧ r ≤ 1 / 8) (col : Fin 128 → EReal)
    (h : ∀ r, max (col r) (-(col r)) ≤ big) : amax col * c < (((2 : ℝ) ^ (126 : ℤ) : ℝ) : EReal) := by
  obtain ⟨r, rfl, h0, h8⟩ := hc
  have up : amax col ≤ big := fold_max_le _ _ _ (by rw [negInf_eq]; exact bot_le) h
  have lo := amax_nonneg col
  rw [big_eq] at up
  generalize amax col = a at up lo
  induction a using EReal.rec with
  | bot => exact absurd lo (by simp)
  | top => exact absurd up (not_le.2 (EReal.coe_lt_top _))
  | coe a =>
    have up' : a ≤ 255 * 2 ^ 120 := EReal.coe_le_coe_iff.1 up
    have lo' : 0 ≤ a := by exact_mod_cast lo
    rw [← EReal.coe_mul, EReal.coe_lt_coe_iff]
    calc a * r ≤ (255 * 2 ^ 120) * (1 / 8) := mul_le_mul up' h8 h0 (by positivity)
      _ < (2 : ℝ) ^ (126 : ℤ) := by norm_num

section
variable (c lo hi : EReal) (hc : ∃ r : ℝ, c = (r : EReal) ∧ 0 ≤ r ∧ r ≤ 1 / 8) (col : Fin 128 → EReal)
  (h : ∀ r, max (col r) (-(col r)) ≤ big) (v : EReal)
include hc h

/-- The scales agree. -/
theorem kScale_eq : kScale c col = rScale c col := scale_eq _ (amax_lt c hc col h)

/-- The codes agree. -/
theorem kCode_eq : kCode c lo hi col v = rCode c lo hi col v := by
  unfold kCode rCode rScale
  rw [inv_eq _ (amax_lt c hc col h)]

/-- The wide values agree. -/
theorem kWide_eq : kWide c lo hi col v = rWide c lo hi col v := by
  unfold kWide rWide
  rw [kScale_eq c hc col h, kCode_eq c lo hi hc col h v]
end

/-! ## The reference's scale in two steps -/

/-- A power if the quotient is below it, else infinity. -/
def aboveOf (y p : EReal) : EReal := if y < p then p else Ideal.ofBits .f32 0x7F800000#32

/-- The least of the entries; one where the quotient is below the least normal number. -/
def leastOf (y : EReal) (q : Fin 253 → EReal) : EReal :=
  if y < Ideal.ofBits .f32 0x00800000#32 then 1 else Finset.univ.fold min (Ideal.ofBits .f32 0x7F800000#32) q

theorem leastOf_aboveOf (y : EReal) : leastOf y (fun k => aboveOf y (pow2 k)) = rscale y := rfl

end Cert.Quant
end
end
-- ==== Proof.Group.lean ====
module
public import proofs.«01_k».proof.Proof.Gen.KernelIdeal.Skeleton
public import proofs.«01_k».proof.Proof.Column
@[expose] public section
set_option maxRecDepth 16384
noncomputable section

/-!
# What the kernel's vector code makes of one group, at an index
-/

open Idealize.ShloMosaic Idealize.ShloMosaic.TcCoe Idealize.SL.Sem

namespace Cert.KernelIdeal.Value
open Cert.KernelIdeal Cert.KernelIdeal.Gen Cert.Quant

/-- The scale row of a group of `dy`. -/
theorem dy_scale (v : FVec Ideal S128x1536 .bf16) (c : Fin 1536) :
    k0_pay6 (F := Ideal) v (ix2 0 c) = kScale cDy fun r => v (ix2 r c) := by
  unfold kScale kscale fieldOr field amax
  pointwise [k0_pay6, k0_pay5, k0_pay4]
  rw [negInf_bf16]
  rfl

/-- The codes of a group of `dy`. -/
theorem dy_code (v : FVec Ideal S128x1536 .bf16) (r : Fin 128) (c : Fin 1536) :
    k0_pay7 (F := Ideal) v (ix2 r c) = kCode cDy loDy hiDy (fun r => v (ix2 r c)) (v (ix2 r c)) := by
  unfold kCode kinv fieldOr field amax
  pointwise [k0_pay7, k0_pay5, k0_pay4]
  rw [negInf_bf16, loDy_bf16, hiDy_bf16]
  rfl

/-- The wide values of a group of `dy`. -/
theorem dy_wide (v : FVec Ideal S128x1536 .bf16) (r : Fin 128) (c : Fin 1536) :
    k0_pay8 (F := Ideal) v (ix2 r c) = kWide cDy loDy hiDy (fun r => v (ix2 r c)) (v (ix2 r c)) := by
  unfold kWide
  rw [← dy_code, ← dy_scale]
  pointwise [k0_pay8]

/-- The scale row of a group of `x`. -/
theorem x_scale (v : FVec Ideal S128x256 .bf16) (c : Fin 256) :
    k1_pay4 (F := Ideal) v (ix2 0 c) = kScale cX fun r => v (ix2 r c) := by
  unfold kScale kscale fieldOr field amax
  pointwise [k1_pay4, k1_pay3, k1_pay2]
  rw [negInf_bf16]
  rfl

/-- The codes of a group of `x`. -/
theorem x_code (v : FVec Ideal S128x256 .bf16) (r : Fin 128) (c : Fin 256) :
    k1_pay5 (F := Ideal) v (ix2 r c) = kCode cX loX hiX (fun r => v (ix2 r c)) (v (ix2 r c)) := by
  unfold kCode kinv fieldOr field amax
  pointwise [k1_pay5, k1_pay3, k1_pay2]
  rw [negInf_bf16, loX_bf16, hiX_bf16]
  rfl

/-- The wide values of a group of `x`. -/
theorem x_wide (v : FVec Ideal S128x256 .bf16) (r : Fin 128) (c : Fin 256) :
    k1_pay7 (F := Ideal) (k1_pay6 v) (ix2 r c) = kWide cX loX hiX (fun r => v (ix2 r c)) (v (ix2 r c)) := by
  unfold kWide
  rw [← x_code, ← x_scale]
  pointwise [k1_pay7, k1_pay6]

end Cert.KernelIdeal.Value
end
end
-- ==== Proof.Block0.lean ====
module
public import proofs.«01_k».proof.Proof.Group
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section

/-!
# What the first kernel's body leaves at a point of its grid

The block is 256 rows of `dy`, two groups of 128; the stores of one output are two pieces, one per group.
-/

open Idealize.ShloMosaic Idealize.ShloMosaic.TcCoe Idealize.SL.Sem

namespace Cert.KernelIdeal.Value
open Cert.KernelIdeal Cert.KernelIdeal.Gen Cert.Quant

variable (V : (c : Dev nD) → (b : Ref sig .tc) → Buf (Elt Ideal) ((c : Thread nD τ).loc b))

/-- A scale row as the body stores it. -/
theorem dy_scale_store (v : FVec Ideal S128x1536 .bf16) (c : Fin 1536) :
    k0_pay9 (F := Ideal) (k0_pay6 v) (ix3 0 0 c) = kScale cDy fun r => v (ix2 r c) := by
  rw [← dy_scale]
  pointwise [k0_pay9]

/-- The wide values as the body stores them, transposed. -/
theorem dy_wide_store (v : FVec Ideal S128x1536 .bf16) (r : Fin 128) (c : Fin 1536) :
    k0_pay10 (F := Ideal) (k0_pay8 v) (ix2 c r) = kWide cDy loDy hiDy (fun r => v (ix2 r c)) (v (ix2 r c)) := by
  rw [← dy_wide]
  pointwise [k0_pay10]

/-- A piece of codes: any array that is `k0_pay7` of the rows from `o` of the block `X`. -/
theorem dy_code_piece (X : FVec Ideal S256x1536 .bf16) (w : FVec Ideal S128x1536 .fp8e5m2) (x : S128x1536.Idx) (n : Fin 256) (c : Fin 1536)
    (o : ℕ) (ho : o % 128 = 0) (h0 : n.val = o + (x 0).val) (h1 : c.val = (x 1).val)
    (hw : ∃ v, w = k0_pay7 (F := Ideal) v ∧
      ∀ (r : Fin 128) (c : Fin 1536) (z : Fin 256), z.val = o + r.val → v (ix2 r c) = X (ix2 z c)) :
    w x = kCode cDy loDy hiDy (fun r => X (ix2 (rowOf (by decide) n r) c)) (X (ix2 n c)) := by
  obtain ⟨v, rfl, hv⟩ := hw
  obtain ⟨a, b, rfl⟩ : ∃ a b, x = ix2 a b := ⟨x 0, x 1, eq_ix2 x⟩
  obtain rfl : c = b := Fin.ext h1
  change n.val = o + a.val at h0
  rw [dy_code, hv a c n h0]
  congr 1
  funext r
  refine hv r c _ ?_
  have := a.isLt
  show n.val / 128 * 128 + r.val = o + r.val
  omega

/-- A piece of wide values, transposed: any array that is `k0_pay10 (k0_pay8 v)`, `v` the rows from `o` of the block `X`. -/
theorem dy_wide_piece (X : FVec Ideal S256x1536 .bf16) (w : FVec Ideal S1536x128 .bf16) (x : S1536x128.Idx) (n : Fin 256) (c : Fin 1536)
    (o : ℕ) (ho : o % 128 = 0) (h0 : c.val = (x 0).val) (h1 : n.val = o + (x 1).val)
    (hw : ∃ v, w = k0_pay10 (F := Ideal) (k0_pay8 v) ∧
      ∀ (r : Fin 128) (c : Fin 1536) (z : Fin 256), z.val = o + r.val → v (ix2 r c) = X (ix2 z c)) :
    w x = kWide cDy loDy hiDy (fun r => X (ix2 (rowOf (by decide) n r) c)) (X (ix2 n c)) := by
  obtain ⟨v, rfl, hv⟩ := hw
  obtain ⟨b, a, rfl⟩ : ∃ a b, x = ix2 a b := ⟨x 0, x 1, eq_ix2 x⟩
  obtain rfl : c = b := Fin.ext h0
  change n.val = o + a.val at h1
  rw [dy_wide_store, hv a c n h1]
  congr 1
  funext r
  refine hv r c _ ?_
  have := a.isLt
  show n.val / 128 * 128 + r.val = o + r.val
  omega

/-- A piece of scales: any array that is `k0_pay9 (k0_pay6 v)`, `v` group number `o` of the block `X`. -/
theorem dy_scale_piece (X : FVec Ideal S256x1536 .bf16) (w : FVec Ideal S1x1x1536 .f32) (x : S1x1x1536.Idx) (g : Fin 2) (c : Fin 1536)
    (o : ℕ) (h0 : g.val = o + (x 1).val) (h1 : c.val = (x 2).val)
    (hw : ∃ v, w = k0_pay9 (F := Ideal) (k0_pay6 v) ∧
      ∀ (r : Fin 128) (c : Fin 1536) (z : Fin 256), z.val = o * 128 + r.val → v (ix2 r c) = X (ix2 z c)) :
    w x = kScale cDy fun r => X (ix2 (rowAt (by decide) g r) c) := by
  obtain ⟨v, rfl, hv⟩ := hw
  obtain ⟨a, a', b, rfl⟩ : ∃ a b c, x = ix3 a b c := ⟨x 0, x 1, x 2, eq_ix3 x⟩
  obtain rfl : c = b := Fin.ext h1
  change g.val = o + a'.val at h0
  obtain rfl : a = 0 := Fin.ext (by have := a.isLt; show a.val = 0; omega)
  obtain rfl : a' = 0 := Fin.ext (by have := a'.isLt; show a'.val = 0; omega)
  rw [dy_scale_store]
  congr 1
  funext r
  refine hv r c _ ?_
  show g.val * 128 + r.val = o * 128 + r.val
  rw [h0]; rfl

/-- The codes the body leaves at a point. -/
theorem dy_code_block (d : Dev nD) (t : Fin cfg0.N) (X : FVec Ideal S256x1536 .bf16) (hX : iblk0 V d 0 t = X) (n : Fin 256) (c : Fin 1536) :
    ((dat0 (F := Ideal) V d).after 1 t : FVec Ideal S256x1536 .fp8e5m2) (ix2 n c) =
      kCode cDy loDy hiDy (fun r => X (ix2 (rowOf (by decide) n r) c)) (X (ix2 n c)) := by
  rw [after0_1]; unfold_out out0_1
  rw [hX]
  canon_tiles x h
  all_goals
    generalize hv : View.ld (Val := Elt Ideal) (S := S256x1536) (e' := .bf16) X _ = v
    first
    | refine dy_code_piece X _ x n c _ (by decide) h0 h1 ⟨v, rfl, ?_⟩
    | refine dy_code_piece X _ x n c 0 (by decide) (h0.trans (Nat.zero_add _).symm) h1 ⟨v, rfl, ?_⟩
  all_goals
    intro r c z hz
    subst hv
    pointwise []
    try exact congrArg X (congrArg (fun z => ix2 z c) (Fin.ext (by simp [hz])))

/-- The scales the body leaves at a point. -/
theorem dy_scale_block (d : Dev nD) (t : Fin cfg0.N) (X : FVec Ideal S256x1536 .bf16) (hX : iblk0 V d 0 t = X) (g : Fin 2) (c : Fin 1536) :
    ((dat0 (F := Ideal) V d).after 2 t : FVec Ideal S1x2x1536 .f32) (ix3 0 g c) =
      kScale cDy fun r => X (ix2 (rowAt (by decide) g r) c) := by
  rw [after0_2]; unfold_out out0_2
  rw [hX]
  canon_tiles x h
  all_goals
    generalize hv : View.ld (Val := Elt Ideal) (S := S256x1536) (e' := .bf16) X _ = v
    first
    | refine dy_scale_piece X _ x g c _ h1 h2 ⟨v, rfl, ?_⟩
    | refine dy_scale_piece X _ x g c 0 (h1.trans (Nat.zero_add _).symm) h2 ⟨v, rfl, ?_⟩
  all_goals
    intro r c z hz
    subst hv
    pointwise []
    try exact congrArg X (congrArg (fun z => ix2 z c) (Fin.ext (by simp [hz])))

/-- The wide values the body leaves at a point, transposed. -/
theorem dy_wide_block (d : Dev nD) (t : Fin cfg0.N) (X : FVec Ideal S256x1536 .bf16) (hX : iblk0 V d 0 t = X) (n : Fin 256) (c : Fin 1536) :
    ((dat0 (F := Ideal) V d).after 3 t : FVec Ideal S1536x256 .bf16) (ix2 c n) =
      kWide cDy loDy hiDy (fun r => X (ix2 (rowOf (by decide) n r) c)) (X (ix2 n c)) := by
  rw [after0_3]; unfold_out out0_3
  rw [hX]
  canon_tiles x h
  all_goals
    generalize hv : View.ld (Val := Elt Ideal) (S := S256x1536) (e' := .bf16) X _ = v
    first
    | refine dy_wide_piece X _ x n c _ (by decide) h0 h1 ⟨v, rfl, ?_⟩
    | refine dy_wide_piece X _ x n c 0 (by decide) h0 (h1.trans (Nat.zero_add _).symm) ⟨v, rfl, ?_⟩
  all_goals
    intro r c z hz
    subst hv
    pointwise []
    try exact congrArg X (congrArg (fun z => ix2 z c) (Fin.ext (by simp [hz])))

end Cert.KernelIdeal.Value
end
end
-- ==== Proof.Array0.lean ====
module
public import proofs.«01_k».proof.Proof.Block0
@[expose] public section
set_option maxRecDepth 16384
noncomputable section

/-!
# What the first kernel leaves in its three result arrays

Its grid has eight points; point `t` takes rows `256 t` to `256 t + 255` of `dy`.
-/

open Idealize.ShloMosaic Idealize.ShloMosaic.TcCoe Idealize.SL.Sem

namespace Cert.KernelIdeal.Value
open Cert.KernelIdeal Cert.KernelIdeal.Gen Cert.Quant

variable (V : (c : Dev nD) → (b : Ref sig .tc) → Buf (Elt Ideal) ((c : Thread nD τ).loc b))

/-- Which block of its array each window has at a point. -/
theorem idx0 : ∀ t : Fin cfg0.N, win0_0.index t = ![t.val, 0] ∧ win0_1.index t = ![t.val, 0]
    ∧ win0_2.index t = ![t.val, 0, 0] ∧ win0_3.index t = ![0, t.val] :=
  (by decide +kernel : ∀ t : Fin grid0.N, _)

/-- The grid has eight points. -/
theorem lt0 (t : Fin cfg0.N) : t.val < 8 := lt_of_lt_of_eq t.isLt (by decide +kernel : cfg0.N = 8)

/-- Row `n` of the block at point `t`, as a row of the array. -/
theorem row0 (t : Fin cfg0.N) (n : Fin 256) : ∃ z : Fin 2048, z.val = t.val * 256 + n.val :=
  ⟨⟨t.val * 256 + n.val, by have := lt0 t; omega⟩, rfl⟩

/-- Row `r` of group `g` of the block `b`. -/
def row3 (b : Fin 8) (g : Fin 2) (r : Fin 128) : Fin 2048 := rowAt (G := 16) (by decide) ⟨b.val * 2 + g.val, by omega⟩ r

/-- The input's block, at an index. -/
theorem dy_at (d : Dev nD) (t : Fin cfg0.N) (A : FVec Ideal S2048x1536 .bf16) (hA : V d main_v1 = A) (n : Fin 256) (c : Fin 1536)
    (z : Fin 2048) (hz : z.val = t.val * 256 + n.val) :
    (iblk0 V d 0 t : FVec Ideal S256x1536 .bf16) (ix2 n c) = A (ix2 z c) := by
  subst hA
  blk_ext [iblk0, idx0 t]

/-- Where the codes' block lies. -/
theorem emb0_1 (t : Fin cfg0.N) (n : Fin 256) (c : Fin 1536) (z : Fin 2048) (hz : z.val = t.val * 256 + n.val) :
    (win0_1.blk t).view.emb (ix2 n c) = ix2 z c := by
  blk_ext [idx0 t]

/-- Where the scales' block lies. -/
theorem emb0_2 (t : Fin cfg0.N) (g : Fin 2) (c : Fin 1536) (z : Fin 8) (hz : z.val = t.val) :
    (win0_2.blk t).view.emb (ix3 0 g c) = ix3 z g c := by
  blk_ext [idx0 t]

/-- Where the wide values' block lies. -/
theorem emb0_3 (t : Fin cfg0.N) (n : Fin 256) (c : Fin 1536) (z : Fin 2048) (hz : z.val = t.val * 256 + n.val) :
    (win0_3.blk t).view.emb (ix2 c n) = ix2 c z := by
  blk_ext [idx0 t]

/-- The codes of `dy`. -/
theorem dy_codes (d : Dev nD) (A : FVec Ideal S2048x1536 .bf16) (hA : V d main_v1 = A) :
    (dat0 (F := Ideal) V d).arrAt 1 cfg0.N =
      fun i : S2048x1536.Idx => kCode cDy loDy hiDy (fun r => A (ix2 (rowOf (by decide) (i 0) r) (i 1))) (A (ix2 (i 0) (i 1))) := by
  refine (dat0 V d).arrAt_eq_of_covers 1 _ (by decide +kernel) fun t hf y => ?_
  obtain ⟨n, c, rfl⟩ : ∃ (n : Fin 256) (c : Fin 1536), y = ix2 n c := ⟨y 0, y 1, eq_ix2 y⟩
  obtain ⟨z, hz⟩ := row0 t n
  refine (dy_code_block V d t _ rfl n c).trans ?_
  blk_simp
  rw [emb0_1 t n c z hz, dy_at V d t A hA n c z hz]
  congr 1
  funext r
  refine dy_at V d t A hA _ c _ ?_
  show z.val / 128 * 128 + r.val = t.val * 256 + (n.val / 128 * 128 + r.val)
  omega

/-- The scales of `dy`. -/
theorem dy_scales (d : Dev nD) (A : FVec Ideal S2048x1536 .bf16) (hA : V d main_v1 = A) :
    (dat0 (F := Ideal) V d).arrAt 2 cfg0.N =
      fun i : S8x2x1536.Idx => kScale cDy fun r => A (ix2 (row3 (i 0) (i 1) r) (i 2)) := by
  refine (dat0 V d).arrAt_eq_of_covers 2 _ (by decide +kernel) fun t hf y => ?_
  obtain ⟨o, g, c, rfl⟩ : ∃ (o : Fin 1) (g : Fin 2) (c : Fin 1536), y = ix3 o g c := ⟨y 0, y 1, y 2, eq_ix3 y⟩
  obtain rfl : o = 0 := Fin.ext (by omega)
  refine (dy_scale_block V d t _ rfl g c).trans ?_
  blk_simp
  rw [emb0_2 t g c ⟨t.val, lt0 t⟩ rfl]
  congr 1
  funext r
  refine dy_at V d t A hA _ c _ ?_
  show (t.val * 2 + g.val) * 128 + r.val = t.val * 256 + (g.val * 128 + r.val)
  omega

/-- The wide values of `dy`, transposed. -/
theorem dy_wides (d : Dev nD) (A : FVec Ideal S2048x1536 .bf16) (hA : V d main_v1 = A) :
    (dat0 (F := Ideal) V d).arrAt 3 cfg0.N =
      fun i : S1536x2048.Idx => kWide cDy loDy hiDy (fun r => A (ix2 (rowOf (by decide) (i 1) r) (i 0))) (A (ix2 (i 1) (i 0))) := by
  refine (dat0 V d).arrAt_eq_of_covers 3 _ (by decide +kernel) fun t hf y => ?_
  obtain ⟨c, n, rfl⟩ : ∃ (c : Fin 1536) (n : Fin 256), y = ix2 c n := ⟨y 0, y 1, eq_ix2 y⟩
  obtain ⟨z, hz⟩ := row0 t n
  refine (dy_wide_block V d t _ rfl n c).trans ?_
  blk_simp
  rw [emb0_3 t n c z hz, dy_at V d t A hA n c z hz]
  congr 1
  funext r
  refine dy_at V d t A hA _ c _ ?_
  show z.val / 128 * 128 + r.val = t.val * 256 + (n.val / 128 * 128 + r.val)
  omega

end Cert.KernelIdeal.Value
end
end
-- ==== Proof.Block1.lean ====
module
public import proofs.«01_k».proof.Proof.Group
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section

/-!
# The blocks of the second region: `x` quantised, and the product

At a point the region holds a block of 2048 rows and 256 channels of `x`. Its body treats the 16 groups of 128 rows one after
the other with the same code, so each statement about a group (`…_tile`) is used once per group.
-/

open Idealize.ShloMosaic Idealize.ShloMosaic.TcCoe Idealize.SL.Sem
open Idealize.ShloMosaic.Pipeline (Dat)

namespace Cert.KernelIdeal.Value
open Cert.KernelIdeal Cert.KernelIdeal.Gen Cert.Quant

variable (V : (c : Dev nD) → (b : Ref sig .tc) → Buf (Elt Ideal) ((c : Thread nD τ).loc b))

/-- One group's codes, the group starting at row `o` of the block `X`. -/
theorem code_tile (X : FVec Ideal S2048x256 .bf16) (v : FVec Ideal S128x256 .bf16) (x : S128x256.Idx) (n : Fin 2048) (c : Fin 256)
    (o : ℕ) (ho : o % 128 = 0) (h0 : n.val = o + (x 0).val) (h1 : c.val = (x 1).val)
    (hv : ∀ (r : Fin 128) (c : Fin 256) (z : Fin 2048), z.val = o + r.val → v (ix2 r c) = X (ix2 z c)) :
    k1_pay5 (F := Ideal) v x = kCode cX loX hiX (fun r => X (ix2 (rowOf (by decide) n r) c)) (X (ix2 n c)) := by
  obtain ⟨a, b, rfl⟩ : ∃ a b, x = ix2 a b := ⟨x 0, x 1, eq_ix2 x⟩
  obtain rfl : c = b := Fin.ext h1
  change n.val = o + a.val at h0
  rw [x_code, hv a c n h0]
  congr 1
  funext r
  refine hv r c _ ?_
  have := a.isLt
  show n.val / 128 * 128 + r.val = o + r.val
  omega

/-- One group's wide values, the group starting at row `o` of the block `X`. -/
theorem wide_tile (X : FVec Ideal S2048x256 .bf16) (v : FVec Ideal S128x256 .bf16) (x : S128x256.Idx) (n : Fin 2048) (c : Fin 256)
    (o : ℕ) (ho : o % 128 = 0) (h0 : n.val = o + (x 0).val) (h1 : c.val = (x 1).val)
    (hv : ∀ (r : Fin 128) (c : Fin 256) (z : Fin 2048), z.val = o + r.val → v (ix2 r c) = X (ix2 z c)) :
    k1_pay7 (F := Ideal) (k1_pay6 v) x = kWide cX loX hiX (fun r => X (ix2 (rowOf (by decide) n r) c)) (X (ix2 n c)) := by
  obtain ⟨a, b, rfl⟩ : ∃ a b, x = ix2 a b := ⟨x 0, x 1, eq_ix2 x⟩
  obtain rfl : c = b := Fin.ext h1
  change n.val = o + a.val at h0
  rw [x_wide, hv a c n h0]
  congr 1
  funext r
  refine hv r c _ ?_
  have := a.isLt
  show n.val / 128 * 128 + r.val = o + r.val
  omega

/-- A piece of wide values: any array that is `k1_pay7 (k1_pay6 v)`, `v` holding the group's rows. -/
theorem wide_piece (X : FVec Ideal S2048x256 .bf16) (w : FVec Ideal S128x256 .bf16) (x : S128x256.Idx) (n : Fin 2048) (c : Fin 256)
    (o : ℕ) (ho : o % 128 = 0) (h0 : n.val = o + (x 0).val) (h1 : c.val = (x 1).val)
    (hw : ∃ v, w = k1_pay7 (F := Ideal) (k1_pay6 v) ∧
      ∀ (r : Fin 128) (c : Fin 256) (z : Fin 2048), z.val = o + r.val → v (ix2 r c) = X (ix2 z c)) :
    w x = kWide cX loX hiX (fun r => X (ix2 (rowOf (by decide) n r) c)) (X (ix2 n c)) := by
  obtain ⟨v, rfl, hv⟩ := hw
  exact wide_tile X v x n c o ho h0 h1 hv

/-- One group's scales, the group being number `o` of the block `X`. -/
theorem scale_tile (X : FVec Ideal S2048x256 .bf16) (v : FVec Ideal S128x256 .bf16) (x : S1x256.Idx) (g : Fin 16) (c : Fin 256)
    (o : ℕ) (h0 : g.val = o + (x 0).val) (h1 : c.val = (x 1).val)
    (hv : ∀ (r : Fin 128) (c : Fin 256) (z : Fin 2048), z.val = o * 128 + r.val → v (ix2 r c) = X (ix2 z c)) :
    k1_pay4 (F := Ideal) v x = kScale cX fun r => X (ix2 (rowAt (by decide) g r) c) := by
  obtain ⟨a, b, rfl⟩ : ∃ a b, x = ix2 a b := ⟨x 0, x 1, eq_ix2 x⟩
  obtain rfl : c = b := Fin.ext h1
  change g.val = o + a.val at h0
  obtain rfl : a = 0 := Fin.ext (by have := a.isLt; show a.val = 0; omega)
  rw [x_scale]
  congr 1
  funext r
  refine hv r c _ ?_
  show g.val * 128 + r.val = o * 128 + r.val
  rw [h0]; rfl

/-- The codes the body leaves at a point. -/
theorem code_block (d : Dev nD) (t : Fin cfg1.N) (X : FVec Ideal S2048x256 .bf16) (hX : iblk1 V d 0 t = X) (n : Fin 2048) (c : Fin 256) :
    ((dat1 (F := Ideal) V d).after 4 t : FVec Ideal S2048x256 .fp8e4m3) (ix2 n c) =
      kCode cX loX hiX (fun r => X (ix2 (rowOf (by decide) n r) c))
        (X (ix2 n c)) := by
  rw [after1_4]; unfold outsAt1; frame_out
  rw [hX]
  canon_tiles x h
  all_goals
    first
    | refine code_tile X _ x n c _ ?_ h0 h1 ?_
    | refine code_tile X _ x n c 0 ?_ (h0.trans (Nat.zero_add _).symm) h1 ?_
  all_goals
    first
    | decide
    | intro r c z hz
      pointwise []
      try exact congrArg X (congrArg (fun z => ix2 z c) (Fin.ext (by simp [hz])))

/-- A scale piece: any value that is `k1_pay4` of the group's rows. -/
theorem scale_piece (X : FVec Ideal S2048x256 .bf16) (w : FVec Ideal S1x256 .f32) (x : S1x256.Idx) (g : Fin 16) (c : Fin 256)
    (o : ℕ) (h0 : g.val = o + (x 0).val) (h1 : c.val = (x 1).val)
    (hw : ∃ v, w = k1_pay4 (F := Ideal) v ∧
      ∀ (r : Fin 128) (c : Fin 256) (z : Fin 2048), z.val = o * 128 + r.val → v (ix2 r c) = X (ix2 z c)) :
    w x = kScale cX fun r => X (ix2 (rowAt (by decide) g r) c) := by
  obtain ⟨v, rfl, hv⟩ := hw
  exact scale_tile X v x g c o h0 h1 hv

/-- The scales the body leaves at a point. -/
theorem scale_block (d : Dev nD) (t : Fin cfg1.N) (X : FVec Ideal S2048x256 .bf16) (hX : iblk1 V d 0 t = X) (g : Fin 16) (c : Fin 256) :
    ((dat1 (F := Ideal) V d).after 5 t : FVec Ideal S16x256 .f32) (ix2 g c) =
      kScale cX fun r => X (ix2 (rowAt (by decide) g r) c) := by
  rw [after1_5]; unfold outsAt1; frame_out
  rw [hX]
  canon_tiles x h
  all_goals
    generalize hv : View.ld (Val := Elt Ideal) (S := S2048x256) (e' := .bf16) X _ = v
    first
    | refine scale_piece X _ x g c _ h0 h1 ⟨v, rfl, ?_⟩
    | refine scale_piece X _ x g c 0 (h0.trans (Nat.zero_add _).symm) h1 ⟨v, rfl, ?_⟩
  all_goals
    intro r c z hz
    subst hv
    pointwise []
    try exact congrArg X (congrArg (fun z => ix2 z c) (Fin.ext (by simp [hz])))

/-- The product added to the accumulator, where the right factor holds `W`. -/
theorem product (D : FVec Ideal S1536x2048 .bf16) (S : FVec Ideal S2048x256 .bf16) (acc : FVec Ideal S1536x256 .f32)
    (W : Fin 2048 → Fin 256 → EReal) (h : ∀ n c, S (ix2 n c) = W n c) (a : Fin 1536) (c : Fin 256) :
    k1_pay1 (F := Ideal) acc (k1_pay104 D S) (ix2 a c) = acc (ix2 a c) + ∑ n : Fin 2048, D (ix2 a n) * W n c := by
  pointwise [k1_pay1, k1_pay104]
  simp only [h]

/-- The block of the result the body leaves at a point: the accumulator plus the product of `dyt` and the wide values of `x`. -/
theorem dw_block (d : Dev nD) (t : Fin cfg1.N) (X : FVec Ideal S2048x256 .bf16) (hX : iblk1 V d 0 t = X)
    (D : FVec Ideal S1536x2048 .bf16) (hD : iblk1 V d 1 t = D) (A : FVec Ideal S1536x256 .f32) (hA : iblk1 V d 2 t = A) (a : Fin 1536) (c : Fin 256) :
    ((dat1 (F := Ideal) V d).after 3 t : FVec Ideal S1536x256 .f32) (ix2 a c) =
      A (ix2 a c) + ∑ n : Fin 2048, D (ix2 a n)
        * kWide cX loX hiX (fun r => X (ix2 (rowOf (by decide) n r) c))
          (X (ix2 n c)) := by
  rw [after1_3]; unfold outsAt1; frame_open
  simp (disch := decide) only [↓ View.readCov_skip, ↓ View.readCov_cons_toLoadRect, ↓ View.readCov_fill]
  frame_out
  rw [hX, hD, hA]
  refine product _ _ _ (fun n c => kWide cX loX hiX (fun r => X (ix2 (rowOf (by decide) n r) c))
    (X (ix2 n c))) (fun n c => ?_) a c
  rw [View.readCov_eq_canon']
  refine (congrArg (View.canon _) (?_ : _ = ix2 n c)).trans ?_
  · funext i
    match i with
    | ⟨0, _⟩ => exact Fin.ext (by show 0 + 1 * n.val = n.val; omega)
    | ⟨1, _⟩ => exact Fin.ext (by show 0 + 1 * c.val = c.val; omega)
  canon_tiles x h
  all_goals
    generalize hv : View.ld (Val := Elt Ideal) (S := S2048x256) (e' := .bf16) X _ = v
    first
    | refine wide_piece X _ x n c _ (by decide) h0 h1 ⟨v, rfl, ?_⟩
    | refine wide_piece X _ x n c 0 (by decide) (h0.trans (Nat.zero_add _).symm) h1 ⟨v, rfl, ?_⟩
  all_goals
    intro r c z hz
    subst hv
    pointwise []
    try exact congrArg X (congrArg (fun z => ix2 z c) (Fin.ext (by simp [hz])))

end Cert.KernelIdeal.Value
end
end
-- ==== Proof.Array1.lean ====
module
public import proofs.«01_k».proof.Proof.Block1
@[expose] public section
set_option maxRecDepth 16384
noncomputable section

/-!
# What the second kernel leaves in its three result arrays

Its grid has twenty points; point `t` takes columns `256 t` to `256 t + 255` of `x`.
-/

open Idealize.ShloMosaic Idealize.ShloMosaic.TcCoe Idealize.SL.Sem

namespace Cert.KernelIdeal.Value
open Cert.KernelIdeal Cert.KernelIdeal.Gen Cert.Quant

variable (V : (c : Dev nD) → (b : Ref sig .tc) → Buf (Elt Ideal) ((c : Thread nD τ).loc b))

/-- Which block of its array each window has at a point. -/
theorem idx1 : ∀ t : Fin cfg1.N, win1_0.index t = ![0, t.val] ∧ win1_1.index t = ![0, 0] ∧ win1_2.index t = ![0, t.val]
    ∧ win1_3.index t = ![0, t.val] ∧ win1_4.index t = ![0, t.val] ∧ win1_5.index t = ![0, t.val] :=
  (by decide +kernel : ∀ t : Fin grid1.N, _)

/-- The grid has twenty points. -/
theorem lt1 (t : Fin cfg1.N) : t.val < 20 := lt_of_lt_of_eq t.isLt (by decide +kernel : cfg1.N = 20)

/-- Column `c` of the block at point `t`, as a column of the array. -/
theorem col1 (t : Fin cfg1.N) (c : Fin 256) : ∃ z : Fin 5120, z.val = t.val * 256 + c.val :=
  ⟨⟨t.val * 256 + c.val, by have := lt1 t; omega⟩, rfl⟩

/-- The block of `x`, at an index. -/
theorem x_at (d : Dev nD) (t : Fin cfg1.N) (A : FVec Ideal S2048x5120 .bf16) (hA : V d main_v0 = A) (n : Fin 2048) (c : Fin 256)
    (z : Fin 5120) (hz : z.val = t.val * 256 + c.val) :
    (iblk1 V d 0 t : FVec Ideal S2048x256 .bf16) (ix2 n c) = A (ix2 n z) := by
  subst hA
  blk_ext [iblk1, idx1 t]

/-- The block of the transposed `dy` is the whole array. -/
theorem dyt_at (d : Dev nD) (t : Fin cfg1.N) (D : FVec Ideal S1536x2048 .bf16) (hD : V d main_v2_2 = D) (a : Fin 1536) (n : Fin 2048) :
    (iblk1 V d 1 t : FVec Ideal S1536x2048 .bf16) (ix2 a n) = D (ix2 a n) := by
  subst hD
  blk_ext [iblk1, idx1 t]

/-- The accumulator's block, at an index. -/
theorem acc_at (d : Dev nD) (t : Fin cfg1.N) (A : FVec Ideal S1536x5120 .f32) (hA : V d main_arg2 = A) (a : Fin 1536) (c : Fin 256)
    (z : Fin 5120) (hz : z.val = t.val * 256 + c.val) :
    (iblk1 V d 2 t : FVec Ideal S1536x256 .f32) (ix2 a c) = A (ix2 a z) := by
  subst hA
  blk_ext [iblk1, idx1 t]

/-- Where the product's block lies. -/
theorem emb1_3 (t : Fin cfg1.N) (a : Fin 1536) (c : Fin 256) (z : Fin 5120) (hz : z.val = t.val * 256 + c.val) :
    (win1_3.blk t).view.emb (ix2 a c) = ix2 a z := by
  blk_ext [idx1 t]

/-- Where the codes' block lies. -/
theorem emb1_4 (t : Fin cfg1.N) (n : Fin 2048) (c : Fin 256) (z : Fin 5120) (hz : z.val = t.val * 256 + c.val) :
    (win1_4.blk t).view.emb (ix2 n c) = ix2 n z := by
  blk_ext [idx1 t]

/-- Where the scales' block lies. -/
theorem emb1_5 (t : Fin cfg1.N) (g : Fin 16) (c : Fin 256) (z : Fin 5120) (hz : z.val = t.val * 256 + c.val) :
    (win1_5.blk t).view.emb (ix2 g c) = ix2 g z := by
  blk_ext [idx1 t]

/-- The codes of `x`. -/
theorem x_codes (d : Dev nD) (A : FVec Ideal S2048x5120 .bf16) (hA : V d main_v0 = A) :
    (dat1 (F := Ideal) V d).arrAt 4 cfg1.N =
      fun i : S2048x5120.Idx => kCode cX loX hiX (fun r => A (ix2 (rowOf (by decide) (i 0) r) (i 1))) (A (ix2 (i 0) (i 1))) := by
  refine (dat1 V d).arrAt_eq_of_covers 4 _ (by decide +kernel) fun t hf y => ?_
  obtain ⟨n, c, rfl⟩ : ∃ (n : Fin 2048) (c : Fin 256), y = ix2 n c := ⟨y 0, y 1, eq_ix2 y⟩
  obtain ⟨z, hz⟩ := col1 t c
  refine (code_block V d t _ rfl n c).trans ?_
  blk_simp
  rw [emb1_4 t n c z hz, x_at V d t A hA n c z hz]
  congr 1
  funext r
  exact x_at V d t A hA _ c z hz

/-- The scales of `x`. -/
theorem x_scales (d : Dev nD) (A : FVec Ideal S2048x5120 .bf16) (hA : V d main_v0 = A) :
    (dat1 (F := Ideal) V d).arrAt 5 cfg1.N =
      fun i : S16x5120.Idx => kScale cX fun r => A (ix2 (rowAt (by decide) (i 0) r) (i 1)) := by
  refine (dat1 V d).arrAt_eq_of_covers 5 _ (by decide +kernel) fun t hf y => ?_
  obtain ⟨g, c, rfl⟩ : ∃ (g : Fin 16) (c : Fin 256), y = ix2 g c := ⟨y 0, y 1, eq_ix2 y⟩
  obtain ⟨z, hz⟩ := col1 t c
  refine (scale_block V d t _ rfl g c).trans ?_
  blk_simp
  rw [emb1_5 t g c z hz]
  congr 1
  funext r
  exact x_at V d t A hA _ c z hz

/-- The accumulated product. -/
theorem dws (d : Dev nD) (A : FVec Ideal S2048x5120 .bf16) (hA : V d main_v0 = A) (D : FVec Ideal S1536x2048 .bf16) (hD : V d main_v2_2 = D)
    (B : FVec Ideal S1536x5120 .f32) (hB : V d main_arg2 = B) :
    (dat1 (F := Ideal) V d).arrAt 3 cfg1.N =
      fun i : S1536x5120.Idx => B (ix2 (i 0) (i 1)) + ∑ n : Fin 2048, D (ix2 (i 0) n)
        * kWide cX loX hiX (fun r => A (ix2 (rowOf (by decide) n r) (i 1))) (A (ix2 n (i 1))) := by
  refine (dat1 V d).arrAt_eq_of_covers 3 _ (by decide +kernel) fun t hf y => ?_
  obtain ⟨a, c, rfl⟩ : ∃ (a : Fin 1536) (c : Fin 256), y = ix2 a c := ⟨y 0, y 1, eq_ix2 y⟩
  obtain ⟨z, hz⟩ := col1 t c
  refine (dw_block V d t _ rfl _ rfl _ rfl a c).trans ?_
  blk_simp
  rw [emb1_3 t a c z hz, acc_at V d t B hB a c z hz]
  refine congrArg (B (ix2 a z) + ·) (Fin.sum_fin_congr fun n => ?_)
  rw [dyt_at V d t D hD a n, x_at V d t A hA n c z hz]
  refine congrArg (fun q => D (ix2 a n) * kWide cX loX hiX q (A (ix2 n z))) (funext fun r => ?_)
  exact x_at V d t A hA _ c z hz

end Cert.KernelIdeal.Value
end
end
-- ==== Proof.Results.lean ====
module
public import proofs.«01_k».proof.Proof.Array0
public import proofs.«01_k».proof.Proof.Array1
@[expose] public section
set_option maxRecDepth 16384
noncomputable section

/-!
# The kernel's five results in terms of its arguments

The two host reshapes before the kernels merge the batch and the sequence; the four after them split results again.
-/

open Idealize.ShloMosaic Idealize.ShloMosaic.TcCoe Idealize.SL.Sem

namespace Cert.KernelIdeal.Value
open Cert.KernelIdeal Cert.KernelIdeal.Gen Cert.Quant

variable (m : (ℓ : Loc nD τ sig) → Buf (Elt Ideal) ℓ) (ρ : Dev nD → PrngReg)

/-- `x` as the kernels read it. -/
def x2 (v : FVec Ideal S2x1024x5120 .bf16) : FVec Ideal S2048x5120 .bf16 := shapeCast S2048x5120 v shapeCasts_S2x1024x5120_S2048x5120

/-- `dy` as the kernels read it. -/
def dy2 (v : FVec Ideal S2x1024x1536 .bf16) : FVec Ideal S2048x1536 .bf16 := shapeCast S2048x1536 v shapeCasts_S2x1024x1536_S2048x1536

theorem x2_at (v : FVec Ideal S2x1024x5120 .bf16) (n : Fin 2048) (c : Fin 5120) (b : Fin 2) (s : Fin 1024) (h : n.val = b.val * 1024 + s.val) :
    x2 v (ix2 n c) = v (ix3 b s c) := by
  pointwise [x2]
  have h1 : n.val / 1024 = b.val := by omega
  have h2 : n.val % 1024 = s.val := by omega
  simp only [h1, h2]

theorem dy2_at (v : FVec Ideal S2x1024x1536 .bf16) (n : Fin 2048) (c : Fin 1536) (b : Fin 2) (s : Fin 1024) (h : n.val = b.val * 1024 + s.val) :
    dy2 v (ix2 n c) = v (ix3 b s c) := by
  pointwise [dy2]
  have h1 : n.val / 1024 = b.val := by omega
  have h2 : n.val % 1024 = s.val := by omega
  simp only [h1, h2]

/-- The first kernel's input. -/
theorem V1_dy (c : Dev nD) : V1 m ρ c main_v1 = dy2 (m ((c : Thread nD τ).loc main_arg1)) := by
  show StableHlo.after hostOps0 (W0 m ρ c) (Proc.devRef .tc main_v1) = _
  after_results
  rfl

/-- The second kernel's first input, which the first kernel leaves as it was. -/
theorem V2_x (c : Dev nD) : V2 m ρ c main_v0 = x2 (m ((c : Thread nD τ).loc main_arg0)) := by
  refine (W2_of m ρ c main_v0 (by decide +kernel)).trans ?_
  show StableHlo.after hostOps0 (W0 m ρ c) (Proc.devRef .tc main_v0) = _
  after_results
  rfl

/-- The second kernel's accumulator. -/
theorem V2_acc (c : Dev nD) : V2 m ρ c main_arg2 = m ((c : Thread nD τ).loc main_arg2) := W2_args m ρ c main_arg2 (by decide)

/-- The second kernel's left factor is the first kernel's third result. -/
theorem V2_dyt (c : Dev nD) : V2 m ρ c main_v2_2 = (dat0 (V1 m ρ) c).arrAt 3 cfg0.N := W2_arr m ρ c 3

/-- The result `dw`. -/
theorem W4_dw (c : Dev nD) : W4 m ρ c (Proc.devRef .tc main_v3_0) = (dat1 (V2 m ρ) c).arrAt 3 cfg1.N :=
  (W4_of m ρ c main_v3_0 (by decide)).trans (W3_arr m ρ c 3)

/-- The codes of `x`. -/
theorem W4_x_codes (c : Dev nD) : W4 m ρ c (Proc.devRef .tc main_v4) =
    shapeCast S2x1024x5120 ((dat1 (V2 m ρ) c).arrAt 4 cfg1.N : FVec Ideal S2048x5120 .fp8e4m3) shapeCasts_S2048x5120_S2x1024x5120 := by
  show StableHlo.after hostOps2 (W3 m ρ c) (Proc.devRef .tc main_v4) = _
  after_results
  rw [W3_arr m ρ c 4]
  rfl

/-- The scales of `x`. -/
theorem W4_x_scales (c : Dev nD) : W4 m ρ c (Proc.devRef .tc main_v5) =
    shapeCast S2x8x5120 ((dat1 (V2 m ρ) c).arrAt 5 cfg1.N : FVec Ideal S16x5120 .f32) shapeCasts_S16x5120_S2x8x5120 := by
  show StableHlo.after hostOps2 (W3 m ρ c) (Proc.devRef .tc main_v5) = _
  after_results
  rw [W3_arr m ρ c 5]
  rfl

/-- The codes of `dy`, which the second kernel leaves as they were. -/
theorem W4_dy_codes (c : Dev nD) : W4 m ρ c (Proc.devRef .tc main_v6) =
    shapeCast S2x1024x1536 ((dat0 (V1 m ρ) c).arrAt 1 cfg0.N : FVec Ideal S2048x1536 .fp8e5m2) shapeCasts_S2048x1536_S2x1024x1536 := by
  show StableHlo.after hostOps2 (W3 m ρ c) (Proc.devRef .tc main_v6) = _
  after_results
  rw [W3_of m ρ c main_v2_0 (by decide +kernel), W2_arr m ρ c 1]
  rfl

/-- The scales of `dy`, which the second kernel leaves as they were. -/
theorem W4_dy_scales (c : Dev nD) : W4 m ρ c (Proc.devRef .tc main_v7) =
    shapeCast S2x8x1536 ((dat0 (V1 m ρ) c).arrAt 2 cfg0.N : FVec Ideal S8x2x1536 .f32) shapeCasts_S8x2x1536_S2x8x1536 := by
  show StableHlo.after hostOps2 (W3 m ρ c) (Proc.devRef .tc main_v7) = _
  after_results
  rw [W3_of m ρ c main_v2_1 (by decide +kernel), W2_arr m ρ c 2]
  rfl

end Cert.KernelIdeal.Value
end
end
-- ==== Proof.Closed.lean ====
module
public import proofs.«01_k».proof.Proof.Results
@[expose] public section
set_option maxRecDepth 16384
noncomputable section

/-!
# The kernel's five results, at an index, in terms of its arguments
-/

open Idealize.ShloMosaic Idealize.ShloMosaic.TcCoe Idealize.SL.Sem

namespace Cert.KernelIdeal.Value
open Cert.KernelIdeal Cert.KernelIdeal.Gen Cert.Quant

/-- The row of batch `b` and place `s` in the sequence. -/
def flat (b : Fin 2) (s : Fin 1024) : Fin 2048 := ⟨b.val * 1024 + s.val, by omega⟩

/-- Splitting the rows of an array as wide as `x`. -/
theorem split_x (F : FVec Ideal S2048x5120 .fp8e4m3) (b : Fin 2) (s : Fin 1024) (k : Fin 5120) :
    shapeCast S2x1024x5120 F shapeCasts_S2048x5120_S2x1024x5120 (ix3 b s k) = F (ix2 (flat b s) k) := by
  pointwise [flat]

/-- Splitting the rows of an array as wide as `dy`. -/
theorem split_dy (F : FVec Ideal S2048x1536 .fp8e5m2) (b : Fin 2) (s : Fin 1024) (k : Fin 1536) :
    shapeCast S2x1024x1536 F shapeCasts_S2048x1536_S2x1024x1536 (ix3 b s k) = F (ix2 (flat b s) k) := by
  pointwise [flat]

/-- Splitting the groups of the scales of `x`. -/
theorem split_x_scale (F : FVec Ideal S16x5120 .f32) (b : Fin 2) (g : Fin 8) (k : Fin 5120) :
    shapeCast S2x8x5120 F shapeCasts_S16x5120_S2x8x5120 (ix3 b g k) = F (ix2 ⟨b.val * 8 + g.val, by omega⟩ k) := by
  pointwise []

/-- Splitting the groups of the scales of `dy`. -/
theorem split_dy_scale (F : FVec Ideal S8x2x1536 .f32) (b : Fin 2) (g : Fin 8) (k : Fin 1536) :
    shapeCast S2x8x1536 F shapeCasts_S8x2x1536_S2x8x1536 (ix3 b g k) =
      F (ix3 ⟨b.val * 4 + g.val / 2, by omega⟩ ⟨g.val % 2, by omega⟩ k) := by
  pointwise []

variable (m : (ℓ : Loc nD τ sig) → Buf (Elt Ideal) ℓ) (ρ : Dev nD → PrngReg) (d : Dev nD)
  (X : FVec Ideal S2x1024x5120 .bf16) (hX : m ((d : Thread nD τ).loc main_arg0) = X)
  (Y : FVec Ideal S2x1024x1536 .bf16) (hY : m ((d : Thread nD τ).loc main_arg1) = Y)
  (A : FVec Ideal S1536x5120 .f32) (hA : m ((d : Thread nD τ).loc main_arg2) = A)

include hX in
/-- The codes of `x`. -/
theorem x_codes_at (b : Fin 2) (s : Fin 1024) (k : Fin 5120) :
    (W4 m ρ d (Proc.devRef .tc main_v4) : FVec Ideal S2x1024x5120 .fp8e4m3) (ix3 b s k) =
      kCode cX loX hiX (fun r => X (ix3 b (rowOf (by decide) s r) k)) (X (ix3 b s k)) := by
  have e := x_codes (V2 m ρ) d (x2 X) ((V2_x m ρ d).trans (congrArg x2 hX))
  rw [W4_x_codes, e, split_x]
  show kCode cX loX hiX (fun r => x2 X (ix2 (rowOf _ (flat b s) r) k)) (x2 X (ix2 (flat b s) k)) = _
  rw [x2_at X _ k b s rfl]
  congr 1
  funext r
  refine x2_at X _ k b _ ?_
  show (b.val * 1024 + s.val) / 128 * 128 + r.val = b.val * 1024 + (s.val / 128 * 128 + r.val)
  omega

include hX in
/-- The scales of `x`. -/
theorem x_scales_at (b : Fin 2) (g : Fin 8) (k : Fin 5120) :
    (W4 m ρ d (Proc.devRef .tc main_v5) : FVec Ideal S2x8x5120 .f32) (ix3 b g k) =
      kScale cX fun r => X (ix3 b (rowAt (by decide) g r) k) := by
  have e := x_scales (V2 m ρ) d (x2 X) ((V2_x m ρ d).trans (congrArg x2 hX))
  rw [W4_x_scales, e, split_x_scale]
  show kScale cX (fun r => x2 X (ix2 (rowAt _ ⟨b.val * 8 + g.val, _⟩ r) k)) = _
  congr 1
  funext r
  refine x2_at X _ k b _ ?_
  show (b.val * 8 + g.val) * 128 + r.val = b.val * 1024 + (g.val * 128 + r.val)
  omega

include hY in
/-- The codes of `dy`. -/
theorem dy_codes_at (b : Fin 2) (s : Fin 1024) (k : Fin 1536) :
    (W4 m ρ d (Proc.devRef .tc main_v6) : FVec Ideal S2x1024x1536 .fp8e5m2) (ix3 b s k) =
      kCode cDy loDy hiDy (fun r => Y (ix3 b (rowOf (by decide) s r) k)) (Y (ix3 b s k)) := by
  have e := dy_codes (V1 m ρ) d (dy2 Y) ((V1_dy m ρ d).trans (congrArg dy2 hY))
  rw [W4_dy_codes, e, split_dy]
  show kCode cDy loDy hiDy (fun r => dy2 Y (ix2 (rowOf _ (flat b s) r) k)) (dy2 Y (ix2 (flat b s) k)) = _
  rw [dy2_at Y _ k b s rfl]
  congr 1
  funext r
  refine dy2_at Y _ k b _ ?_
  show (b.val * 1024 + s.val) / 128 * 128 + r.val = b.val * 1024 + (s.val / 128 * 128 + r.val)
  omega

include hY in
/-- The scales of `dy`. -/
theorem dy_scales_at (b : Fin 2) (g : Fin 8) (k : Fin 1536) :
    (W4 m ρ d (Proc.devRef .tc main_v7) : FVec Ideal S2x8x1536 .f32) (ix3 b g k) =
      kScale cDy fun r => Y (ix3 b (rowAt (by decide) g r) k) := by
  have e := dy_scales (V1 m ρ) d (dy2 Y) ((V1_dy m ρ d).trans (congrArg dy2 hY))
  rw [W4_dy_scales, e, split_dy_scale]
  show kScale cDy (fun r => dy2 Y (ix2 (row3 ⟨b.val * 4 + g.val / 2, _⟩ ⟨g.val % 2, _⟩ r) k)) = _
  congr 1
  funext r
  refine dy2_at Y _ k b _ ?_
  show ((b.val * 4 + g.val / 2) * 2 + g.val % 2) * 128 + r.val = b.val * 1024 + (g.val * 128 + r.val)
  omega

/-- The batch of a row. -/
def batch (n : Fin 2048) : Fin 2 := ⟨n.val / 1024, by omega⟩

/-- The place of a row in its sequence. -/
def place (n : Fin 2048) : Fin 1024 := ⟨n.val % 1024, by omega⟩

theorem batch_place (n : Fin 2048) : n.val = (batch n).val * 1024 + (place n).val := by
  show n.val = n.val / 1024 * 1024 + n.val % 1024
  omega

include hX hY hA in
/-- The accumulated product. -/
theorem dw_at (a : Fin 1536) (k : Fin 5120) :
    (W4 m ρ d (Proc.devRef .tc main_v3_0) : FVec Ideal S1536x5120 .f32) (ix2 a k) =
      A (ix2 a k) + ∑ n : Fin 2048,
        kWide cDy loDy hiDy (fun r => Y (ix3 (batch n) (rowOf (by decide) (place n) r) a)) (Y (ix3 (batch n) (place n) a))
        * kWide cX loX hiX (fun r => X (ix3 (batch n) (rowOf (by decide) (place n) r) k)) (X (ix3 (batch n) (place n) k)) := by
  have eD := dy_wides (V1 m ρ) d (dy2 Y) ((V1_dy m ρ d).trans (congrArg dy2 hY))
  have e := dws (V2 m ρ) d (x2 X) ((V2_x m ρ d).trans (congrArg x2 hX)) _ ((V2_dyt m ρ d).trans eD) A ((V2_acc m ρ d).trans hA)
  rw [W4_dw, e]
  refine congrArg (A (ix2 a k) + ·) (Fin.sum_fin_congr fun n => ?_)
  have hn := batch_place n
  have row : ∀ r : Fin 128, (rowOf (R := 2048) (by decide) n r).val = (batch n).val * 1024 + (rowOf (R := 1024) (by decide) (place n) r).val := fun r => by
    show n.val / 128 * 128 + r.val = n.val / 1024 * 1024 + (n.val % 1024 / 128 * 128 + r.val)
    omega
  show kWide cDy loDy hiDy (fun r => dy2 Y (ix2 (rowOf _ n r) a)) (dy2 Y (ix2 n a))
    * kWide cX loX hiX (fun r => x2 X (ix2 (rowOf _ n r) k)) (x2 X (ix2 n k)) = _
  rw [dy2_at Y n a _ _ hn, x2_at X n k _ _ hn,
    show (fun r => dy2 Y (ix2 (rowOf (by decide) n r) a)) = _ from funext fun r => dy2_at Y _ a _ _ (row r),
    show (fun r => x2 X (ix2 (rowOf (by decide) n r) k)) = _ from funext fun r => x2_at X _ k _ _ (row r)]

end Cert.KernelIdeal.Value
end
end
-- ==== Proof.RefX.lean ====
module
public import proofs.«01_k».proof.Proof.Gen.ReferenceIdeal.Skeleton
public import proofs.«01_k».proof.Proof.Column
@[expose] public section
set_option maxRecDepth 16384
noncomputable section

/-!
# What the reference computes of `x`, at an index

The scale is read in stages: the largest absolute values, the table of powers of two, the powers above the
quotient, the least of those.
-/

open Idealize.ShloMosaic Idealize.ShloMosaic.TcCoe Idealize.SL.Sem

namespace Cert.ReferenceIdeal.Value.X
open Cert.ReferenceIdeal Cert.ReferenceIdeal.Gen Cert.Quant

/-- The argument by groups, at an index. -/
theorem group_at (v : FVec Ideal S2x1024x5120 .bf16) (b : Fin 2) (g : Fin 8) (r : Fin 128) (c : Fin 5120) :
    k0_pay2 (F := Ideal) v (ix4 b g r c) = v (ix3 b (rowAt (by decide) g r) c) := by
  pointwise [k0_pay2]
  rfl

/-- The largest absolute values of the groups. -/
def amaxs (v : FVec Ideal S2x8x128x5120 .f32) : FVec Ideal S2x8x5120 .f32 :=
  multiReduction .maximumf [2] S2x8x5120 (absf v) 0xFF800000#32 reduces_S2x8x128x5120_S2x8x5120 (.inl rfl) rfl

theorem amaxs_at (v : FVec Ideal S2x8x128x5120 .f32) (b : Fin 2) (g : Fin 8) (c : Fin 5120) :
    amaxs v (ix3 b g c) = amax fun r => v (ix4 b g r c) := by
  unfold amax
  pointwise [amaxs]
  rfl

/-- The quotients: the largest absolute values times the reciprocal of the largest code. -/
def quotients (y : FVec Ideal S2x8x5120 .f32) : FVec Ideal S2x8x5120 .f32 := mulf y (broadcast S2x8x5120 (Scalar.ofBits .f32 0x3B124925#32))

theorem quotients_at (y : FVec Ideal S2x8x5120 .f32) (b : Fin 2) (g : Fin 8) (c : Fin 5120) :
    quotients y (ix3 b g c) = y (ix3 b g c) * cX := rfl

/-- The table of powers of two. -/
def powers : FVec Ideal S2x253x8x5120 .f32 :=
  exp2 (sitofp .f32 (subi (iota .tc S2x253x8x5120 32 [1] iota_S2x253x8x5120_d1_w32) (broadcast S2x253x8x5120 125#32)))

theorem iota_at (b : Fin 2) (k : Fin 253) (g : Fin 8) (c : Fin 5120) :
    iota .tc S2x253x8x5120 32 [1] iota_S2x253x8x5120_d1_w32 (ix4 b k g c) = BitVec.ofNat 32 k.val := by
  pointwise []

theorem powers_at (b : Fin 2) (k : Fin 253) (g : Fin 8) (c : Fin 5120) : powers (ix4 b k g c) = pow2 k := by
  exact congrArg (fun w => FloatOps.exp2 (F := Ideal) (FloatOps.sitofp .f32 (IntOp.subi w 125#32))) (iota_at b k g c)

/-- The powers above the quotients, infinity at the others. -/
def above (p : FVec Ideal S2x253x8x5120 .f32) (y : FVec Ideal S2x8x5120 .f32) : FVec Ideal S2x253x8x5120 .f32 :=
  select (cmpf .olt (broadcastTo S2x253x8x5120 (shapeCast S2x1x8x5120 y shapeCasts_S2x8x5120_S2x1x8x5120)
    broadcasts_S2x1x8x5120_S2x253x8x5120) p) p (broadcast S2x253x8x5120 (Scalar.ofBits .f32 0x7F800000#32))

theorem above_at (p : FVec Ideal S2x253x8x5120 .f32) (y : FVec Ideal S2x8x5120 .f32) (b : Fin 2) (k : Fin 253) (g : Fin 8) (c : Fin 5120) :
    above p y (ix4 b k g c) = aboveOf (y (ix3 b g c)) (p (ix4 b k g c)) := by
  unfold aboveOf
  pointwise [above]

/-- The least of them, and one where the quotient is below the least normal number. -/
def least (q : FVec Ideal S2x253x8x5120 .f32) (y : FVec Ideal S2x8x5120 .f32) : FVec Ideal S2x8x5120 .f32 :=
  select (cmpf .olt y (broadcast S2x8x5120 (Scalar.ofBits .f32 0x00800000#32))) (broadcast S2x8x5120 (Scalar.ofBits .f32 0x3F800000#32))
    (multiReduction .minimumf [1] S2x8x5120 q 0x7F800000#32 reduces_S2x253x8x5120_S2x8x5120 (.inl rfl) rfl)

theorem least_at (q : FVec Ideal S2x253x8x5120 .f32) (y : FVec Ideal S2x8x5120 .f32) (b : Fin 2) (g : Fin 8) (c : Fin 5120) :
    least q y (ix3 b g c) = leastOf (y (ix3 b g c)) fun k => q (ix4 b k g c) := by
  unfold leastOf
  pointwise [least]

/-- The printed scale is these stages. -/
theorem scale_stages (v : FVec Ideal S2x1024x5120 .bf16) :
    k0_pay3 (F := Ideal) v = least (above powers (quotients (amaxs (k0_pay2 v)))) (quotients (amaxs (k0_pay2 v))) := rfl

/-- The least power above a quotient. -/
theorem least_above_at (y : FVec Ideal S2x8x5120 .f32) (b : Fin 2) (g : Fin 8) (c : Fin 5120) :
    least (above powers y) y (ix3 b g c) = rscale (y (ix3 b g c)) := by
  rw [least_at, ← leastOf_aboveOf]
  refine congrArg (leastOf (y (ix3 b g c))) (funext fun k => ?_)
  rw [above_at, powers_at]

/-- A quotient, in terms of the argument. -/
theorem quotient_at (v : FVec Ideal S2x1024x5120 .bf16) (b : Fin 2) (g : Fin 8) (c : Fin 5120) :
    quotients (amaxs (k0_pay2 v)) (ix3 b g c) = (amax fun r => v (ix3 b (rowAt (by decide) g r) c)) * cX := by
  rw [quotients_at, amaxs_at]
  refine congrArg (fun col => amax col * cX) (funext fun r => ?_)
  exact group_at v b g r c

/-- The scales. -/
theorem scale_at (v : FVec Ideal S2x1024x5120 .bf16) (b : Fin 2) (g : Fin 8) (c : Fin 5120) :
    k0_pay3 (F := Ideal) v (ix3 b g c) = rScale cX fun r => v (ix3 b (rowAt (by decide) g r) c) := by
  rw [scale_stages, least_above_at]
  exact congrArg rscale (quotient_at v b g c)

/-- The reciprocals of the scales. -/
def recips (s : FVec Ideal S2x8x5120 .f32) : FVec Ideal S2x8x5120 .f32 := divf (broadcast S2x8x5120 (Scalar.ofBits .f32 0x3F800000#32)) s

theorem recips_at (s : FVec Ideal S2x8x5120 .f32) (i : S2x8x5120.Idx) : recips s i = Ideal.div 1 (s i) := by
  pointwise [recips]

/-- The groups times the reciprocals. -/
def scaled (w : FVec Ideal S2x8x128x5120 .f32) (p : FVec Ideal S2x8x5120 .f32) : FVec Ideal S2x8x128x5120 .f32 :=
  mulf w (broadcastTo S2x8x128x5120 (shapeCast S2x8x1x5120 p shapeCasts_S2x8x5120_S2x8x1x5120) broadcasts_S2x8x1x5120_S2x8x128x5120)

theorem scaled_at (w : FVec Ideal S2x8x128x5120 .f32) (p : FVec Ideal S2x8x5120 .f32) (b : Fin 2) (g : Fin 8) (r : Fin 128) (c : Fin 5120) :
    scaled w p (ix4 b g r c) = w (ix4 b g r c) * p (ix3 b g c) := by
  pointwise [scaled]

/-- The clipped products, at the code's type. -/
def clipped (q : FVec Ideal S2x8x128x5120 .f32) : FVec Ideal S2x8x128x5120 .fp8e4m3 :=
  truncf .fp8e4m3 (minimumf (broadcast S2x8x128x5120 (Scalar.ofBits .f32 0x43E00000#32))
    (maximumf (broadcast S2x8x128x5120 (Scalar.ofBits .f32 0xC3E00000#32)) q)) bitsLt_fp8e4m3_f32

theorem clipped_at (q : FVec Ideal S2x8x128x5120 .f32) (i : S2x8x128x5120.Idx) : clipped q i = min hiX (max loX (q i)) := rfl

/-- The printed codes are these stages. -/
theorem code_stages (v : FVec Ideal S2x1024x5120 .bf16) :
    k0_pay4 (F := Ideal) v = clipped (scaled (k0_pay2 v) (recips (k0_pay3 v))) := rfl

/-- The codes by groups. -/
theorem group_code_at (v : FVec Ideal S2x1024x5120 .bf16) (b : Fin 2) (g : Fin 8) (r : Fin 128) (c : Fin 5120) :
    k0_pay4 (F := Ideal) v (ix4 b g r c) =
      rCode cX loX hiX (fun r => v (ix3 b (rowAt (by decide) g r) c)) (v (ix3 b (rowAt (by decide) g r) c)) := by
  unfold rCode
  rw [code_stages, clipped_at, scaled_at, recips_at, scale_at, group_at]

/-- The wide values by groups. -/
def groupWide (q : FVec Ideal S2x8x128x5120 .fp8e4m3) (s : FVec Ideal S2x8x5120 .f32) : FVec Ideal S2x8x128x5120 .bf16 :=
  mulf (extf .bf16 q bitsLt_fp8e4m3_bf16)
    (broadcastTo S2x8x128x5120 (shapeCast S2x8x1x5120 (truncf .bf16 s bitsLt_bf16_f32) shapeCasts_S2x8x5120_S2x8x1x5120)
      broadcasts_S2x8x1x5120_S2x8x128x5120)

theorem groupWide_at (q : FVec Ideal S2x8x128x5120 .fp8e4m3) (s : FVec Ideal S2x8x5120 .f32) (b : Fin 2) (g : Fin 8) (r : Fin 128) (c : Fin 5120) :
    groupWide q s (ix4 b g r c) = q (ix4 b g r c) * s (ix3 b g c) := by
  pointwise [groupWide]

/-- The group of a place in the sequence, and its place in the group, give the place back. -/
theorem rowAt_split (s : Fin 1024) : rowAt (G := 8) (by decide) ⟨s.val / 128, by omega⟩ ⟨s.val % 128, by omega⟩ = s :=
  Fin.ext (by show s.val / 128 * 128 + s.val % 128 = s.val; omega)

/-- The codes. -/
theorem code_at (v : FVec Ideal S2x1024x5120 .bf16) (b : Fin 2) (s : Fin 1024) (c : Fin 5120) :
    k0_pay5 (F := Ideal) v (ix3 b s c) = rCode cX loX hiX (fun r => v (ix3 b (rowOf (by decide) s r) c)) (v (ix3 b s c)) := by
  have e : k0_pay5 (F := Ideal) v (ix3 b s c) =
      k0_pay4 (F := Ideal) v (ix4 b ⟨s.val / 128, by omega⟩ ⟨s.val % 128, by omega⟩ c) := by
    unfold k0_pay5
    pointwise []
  rw [e, group_code_at, rowAt_split]
  rfl

/-- The wide values, the batch and the sequence as one axis. -/
theorem wide_at (v : FVec Ideal S2x1024x5120 .bf16) (n : Fin 2048) (c : Fin 5120) (b : Fin 2) (s : Fin 1024) (h : n.val = b.val * 1024 + s.val) :
    k0_pay6 (F := Ideal) v (ix2 n c) = rWide cX loX hiX (fun r => v (ix3 b (rowOf (by decide) s r) c)) (v (ix3 b s c)) := by
  have e : k0_pay6 (F := Ideal) v (ix2 n c) =
      groupWide (k0_pay4 v) (k0_pay3 v) (ix4 b ⟨s.val / 128, by omega⟩ ⟨s.val % 128, by omega⟩ c) := by
    show shapeCast S2048x5120 (groupWide (k0_pay4 v) (k0_pay3 v)) shapeCasts_S2x8x128x5120_S2048x5120 (ix2 n c) = _
    pointwise []
    have h1 : n.val / 1024 = b.val := by omega
    have h2 : n.val / 128 % 8 = s.val / 128 := by omega
    have h3 : n.val % 128 = s.val % 128 := by omega
    simp only [h1, h2, h3]
  rw [e, groupWide_at, group_code_at, scale_at, rowAt_split]
  rfl

end Cert.ReferenceIdeal.Value.X
end
end
-- ==== Proof.RefDy.lean ====
module
public import proofs.«01_k».proof.Proof.Gen.ReferenceIdeal.Skeleton
public import proofs.«01_k».proof.Proof.Column
@[expose] public section
set_option maxRecDepth 16384
noncomputable section

/-!
# What the reference computes of `dy`, at an index

The scale is read in stages: the largest absolute values, the table of powers of two, the powers above the
quotient, the least of those.
-/

open Idealize.ShloMosaic Idealize.ShloMosaic.TcCoe Idealize.SL.Sem

namespace Cert.ReferenceIdeal.Value.Dy
open Cert.ReferenceIdeal Cert.ReferenceIdeal.Gen Cert.Quant

/-- The argument by groups, at an index. -/
theorem group_at (v : FVec Ideal S2x1024x1536 .bf16) (b : Fin 2) (g : Fin 8) (r : Fin 128) (c : Fin 1536) :
    k0_pay7 (F := Ideal) v (ix4 b g r c) = v (ix3 b (rowAt (by decide) g r) c) := by
  pointwise [k0_pay7]
  rfl

/-- The largest absolute values of the groups. -/
def amaxs (v : FVec Ideal S2x8x128x1536 .f32) : FVec Ideal S2x8x1536 .f32 :=
  multiReduction .maximumf [2] S2x8x1536 (absf v) 0xFF800000#32 reduces_S2x8x128x1536_S2x8x1536 (.inl rfl) rfl

theorem amaxs_at (v : FVec Ideal S2x8x128x1536 .f32) (b : Fin 2) (g : Fin 8) (c : Fin 1536) :
    amaxs v (ix3 b g c) = amax fun r => v (ix4 b g r c) := by
  unfold amax
  pointwise [amaxs]
  rfl

/-- The quotients: the largest absolute values times the reciprocal of the largest code. -/
def quotients (y : FVec Ideal S2x8x1536 .f32) : FVec Ideal S2x8x1536 .f32 := mulf y (broadcast S2x8x1536 (Scalar.ofBits .f32 0x37924925#32))

theorem quotients_at (y : FVec Ideal S2x8x1536 .f32) (b : Fin 2) (g : Fin 8) (c : Fin 1536) :
    quotients y (ix3 b g c) = y (ix3 b g c) * cDy := rfl

/-- The table of powers of two. -/
def powers : FVec Ideal S2x253x8x1536 .f32 :=
  exp2 (sitofp .f32 (subi (iota .tc S2x253x8x1536 32 [1] iota_S2x253x8x1536_d1_w32) (broadcast S2x253x8x1536 125#32)))

theorem iota_at (b : Fin 2) (k : Fin 253) (g : Fin 8) (c : Fin 1536) :
    iota .tc S2x253x8x1536 32 [1] iota_S2x253x8x1536_d1_w32 (ix4 b k g c) = BitVec.ofNat 32 k.val := by
  pointwise []

theorem powers_at (b : Fin 2) (k : Fin 253) (g : Fin 8) (c : Fin 1536) : powers (ix4 b k g c) = pow2 k := by
  exact congrArg (fun w => FloatOps.exp2 (F := Ideal) (FloatOps.sitofp .f32 (IntOp.subi w 125#32))) (iota_at b k g c)

/-- The powers above the quotients, infinity at the others. -/
def above (p : FVec Ideal S2x253x8x1536 .f32) (y : FVec Ideal S2x8x1536 .f32) : FVec Ideal S2x253x8x1536 .f32 :=
  select (cmpf .olt (broadcastTo S2x253x8x1536 (shapeCast S2x1x8x1536 y shapeCasts_S2x8x1536_S2x1x8x1536)
    broadcasts_S2x1x8x1536_S2x253x8x1536) p) p (broadcast S2x253x8x1536 (Scalar.ofBits .f32 0x7F800000#32))

theorem above_at (p : FVec Ideal S2x253x8x1536 .f32) (y : FVec Ideal S2x8x1536 .f32) (b : Fin 2) (k : Fin 253) (g : Fin 8) (c : Fin 1536) :
    above p y (ix4 b k g c) = aboveOf (y (ix3 b g c)) (p (ix4 b k g c)) := by
  unfold aboveOf
  pointwise [above]

/-- The least of them, and one where the quotient is below the least normal number. -/
def least (q : FVec Ideal S2x253x8x1536 .f32) (y : FVec Ideal S2x8x1536 .f32) : FVec Ideal S2x8x1536 .f32 :=
  select (cmpf .olt y (broadcast S2x8x1536 (Scalar.ofBits .f32 0x00800000#32))) (broadcast S2x8x1536 (Scalar.ofBits .f32 0x3F800000#32))
    (multiReduction .minimumf [1] S2x8x1536 q 0x7F800000#32 reduces_S2x253x8x1536_S2x8x1536 (.inl rfl) rfl)

theorem least_at (q : FVec Ideal S2x253x8x1536 .f32) (y : FVec Ideal S2x8x1536 .f32) (b : Fin 2) (g : Fin 8) (c : Fin 1536) :
    least q y (ix3 b g c) = leastOf (y (ix3 b g c)) fun k => q (ix4 b k g c) := by
  unfold leastOf
  pointwise [least]

/-- The printed scale is these stages. -/
theorem scale_stages (v : FVec Ideal S2x1024x1536 .bf16) :
    k0_pay8 (F := Ideal) v = least (above powers (quotients (amaxs (k0_pay7 v)))) (quotients (amaxs (k0_pay7 v))) := rfl

/-- The least power above a quotient. -/
theorem least_above_at (y : FVec Ideal S2x8x1536 .f32) (b : Fin 2) (g : Fin 8) (c : Fin 1536) :
    least (above powers y) y (ix3 b g c) = rscale (y (ix3 b g c)) := by
  rw [least_at, ← leastOf_aboveOf]
  refine congrArg (leastOf (y (ix3 b g c))) (funext fun k => ?_)
  rw [above_at, powers_at]

/-- A quotient, in terms of the argument. -/
theorem quotient_at (v : FVec Ideal S2x1024x1536 .bf16) (b : Fin 2) (g : Fin 8) (c : Fin 1536) :
    quotients (amaxs (k0_pay7 v)) (ix3 b g c) = (amax fun r => v (ix3 b (rowAt (by decide) g r) c)) * cDy := by
  rw [quotients_at, amaxs_at]
  refine congrArg (fun col => amax col * cDy) (funext fun r => ?_)
  exact group_at v b g r c

/-- The scales. -/
theorem scale_at (v : FVec Ideal S2x1024x1536 .bf16) (b : Fin 2) (g : Fin 8) (c : Fin 1536) :
    k0_pay8 (F := Ideal) v (ix3 b g c) = rScale cDy fun r => v (ix3 b (rowAt (by decide) g r) c) := by
  rw [scale_stages, least_above_at]
  exact congrArg rscale (quotient_at v b g c)

/-- The reciprocals of the scales. -/
def recips (s : FVec Ideal S2x8x1536 .f32) : FVec Ideal S2x8x1536 .f32 := divf (broadcast S2x8x1536 (Scalar.ofBits .f32 0x3F800000#32)) s

theorem recips_at (s : FVec Ideal S2x8x1536 .f32) (i : S2x8x1536.Idx) : recips s i = Ideal.div 1 (s i) := by
  pointwise [recips]

/-- The groups times the reciprocals. -/
def scaled (w : FVec Ideal S2x8x128x1536 .f32) (p : FVec Ideal S2x8x1536 .f32) : FVec Ideal S2x8x128x1536 .f32 :=
  mulf w (broadcastTo S2x8x128x1536 (shapeCast S2x8x1x1536 p shapeCasts_S2x8x1536_S2x8x1x1536) broadcasts_S2x8x1x1536_S2x8x128x1536)

theorem scaled_at (w : FVec Ideal S2x8x128x1536 .f32) (p : FVec Ideal S2x8x1536 .f32) (b : Fin 2) (g : Fin 8) (r : Fin 128) (c : Fin 1536) :
    scaled w p (ix4 b g r c) = w (ix4 b g r c) * p (ix3 b g c) := by
  pointwise [scaled]

/-- The clipped products, at the code's type. -/
def clipped (q : FVec Ideal S2x8x128x1536 .f32) : FVec Ideal S2x8x128x1536 .fp8e5m2 :=
  truncf .fp8e5m2 (minimumf (broadcast S2x8x128x1536 (Scalar.ofBits .f32 0x47600000#32))
    (maximumf (broadcast S2x8x128x1536 (Scalar.ofBits .f32 0xC7600000#32)) q)) bitsLt_fp8e5m2_f32

theorem clipped_at (q : FVec Ideal S2x8x128x1536 .f32) (i : S2x8x128x1536.Idx) : clipped q i = min hiDy (max loDy (q i)) := rfl

/-- The printed codes are these stages. -/
theorem code_stages (v : FVec Ideal S2x1024x1536 .bf16) :
    k0_pay9 (F := Ideal) v = clipped (scaled (k0_pay7 v) (recips (k0_pay8 v))) := rfl

/-- The codes by groups. -/
theorem group_code_at (v : FVec Ideal S2x1024x1536 .bf16) (b : Fin 2) (g : Fin 8) (r : Fin 128) (c : Fin 1536) :
    k0_pay9 (F := Ideal) v (ix4 b g r c) =
      rCode cDy loDy hiDy (fun r => v (ix3 b (rowAt (by decide) g r) c)) (v (ix3 b (rowAt (by decide) g r) c)) := by
  unfold rCode
  rw [code_stages, clipped_at, scaled_at, recips_at, scale_at, group_at]

/-- The wide values by groups. -/
def groupWide (q : FVec Ideal S2x8x128x1536 .fp8e5m2) (s : FVec Ideal S2x8x1536 .f32) : FVec Ideal S2x8x128x1536 .bf16 :=
  mulf (extf .bf16 q bitsLt_fp8e5m2_bf16)
    (broadcastTo S2x8x128x1536 (shapeCast S2x8x1x1536 (truncf .bf16 s bitsLt_bf16_f32) shapeCasts_S2x8x1536_S2x8x1x1536)
      broadcasts_S2x8x1x1536_S2x8x128x1536)

theorem groupWide_at (q : FVec Ideal S2x8x128x1536 .fp8e5m2) (s : FVec Ideal S2x8x1536 .f32) (b : Fin 2) (g : Fin 8) (r : Fin 128) (c : Fin 1536) :
    groupWide q s (ix4 b g r c) = q (ix4 b g r c) * s (ix3 b g c) := by
  pointwise [groupWide]

/-- The group of a place in the sequence, and its place in the group, give the place back. -/
theorem rowAt_split (s : Fin 1024) : rowAt (G := 8) (by decide) ⟨s.val / 128, by omega⟩ ⟨s.val % 128, by omega⟩ = s :=
  Fin.ext (by show s.val / 128 * 128 + s.val % 128 = s.val; omega)

/-- The codes. -/
theorem code_at (v : FVec Ideal S2x1024x1536 .bf16) (b : Fin 2) (s : Fin 1024) (c : Fin 1536) :
    k0_pay10 (F := Ideal) v (ix3 b s c) = rCode cDy loDy hiDy (fun r => v (ix3 b (rowOf (by decide) s r) c)) (v (ix3 b s c)) := by
  have e : k0_pay10 (F := Ideal) v (ix3 b s c) =
      k0_pay9 (F := Ideal) v (ix4 b ⟨s.val / 128, by omega⟩ ⟨s.val % 128, by omega⟩ c) := by
    unfold k0_pay10
    pointwise []
  rw [e, group_code_at, rowAt_split]
  rfl

/-- The wide values, the batch and the sequence as one axis. -/
theorem wide_at (v : FVec Ideal S2x1024x1536 .bf16) (n : Fin 2048) (c : Fin 1536) (b : Fin 2) (s : Fin 1024) (h : n.val = b.val * 1024 + s.val) :
    k0_pay11 (F := Ideal) v (ix2 n c) = rWide cDy loDy hiDy (fun r => v (ix3 b (rowOf (by decide) s r) c)) (v (ix3 b s c)) := by
  have e : k0_pay11 (F := Ideal) v (ix2 n c) =
      groupWide (k0_pay9 v) (k0_pay8 v) (ix4 b ⟨s.val / 128, by omega⟩ ⟨s.val % 128, by omega⟩ c) := by
    show shapeCast S2048x1536 (groupWide (k0_pay9 v) (k0_pay8 v)) shapeCasts_S2x8x128x1536_S2048x1536 (ix2 n c) = _
    pointwise []
    have h1 : n.val / 1024 = b.val := by omega
    have h2 : n.val / 128 % 8 = s.val / 128 := by omega
    have h3 : n.val % 128 = s.val % 128 := by omega
    simp only [h1, h2, h3]
  rw [e, groupWide_at, group_code_at, scale_at, rowAt_split]
  rfl

end Cert.ReferenceIdeal.Value.Dy
end
end
-- ==== Proof.RefDw.lean ====
module
public import proofs.«01_k».proof.Proof.RefX
public import proofs.«01_k».proof.Proof.RefDy
@[expose] public section
set_option maxRecDepth 16384
noncomputable section

/-!
# The reference's product, at an index
-/

open Idealize.ShloMosaic Idealize.ShloMosaic.TcCoe Idealize.SL.Sem

namespace Cert.ReferenceIdeal.Value
open Cert.ReferenceIdeal Cert.ReferenceIdeal.Gen Cert.Quant

/-- The accumulator plus the product over the rows. -/
theorem dw_at (X : FVec Ideal S2048x5120 .bf16) (D : FVec Ideal S2048x1536 .bf16) (A : FVec Ideal S1536x5120 .f32) (a : Fin 1536) (c : Fin 5120) :
    k0_pay1 (F := Ideal) X D A (ix2 a c) = A (ix2 a c) + ∑ n : Fin 2048, D (ix2 n a) * X (ix2 n c) := by
  pointwise [k0_pay1]

end Cert.ReferenceIdeal.Value
end
end
-- ==== Proof.Finite.lean ====
module
public import proofs.«01_k».proof.Proof.Column
public import proofs.«01_k».proof.Pre_finite
@[expose] public section
noncomputable section

/-!
# The precondition, at an index

Where `finite` holds, no absolute value in `x` or `dy` is above the largest finite bf16 number.
-/

open Idealize.ShloMosaic

namespace Cert.Quant
open Cert.Pre_finite

variable [Cert.Pre_finite.Facts] (X : FVec Ideal S2x1024x5120 .bf16) (Y : FVec Ideal S2x1024x1536 .bf16) (A : FVec Ideal S1536x5120 .f32)

/-- A comparison that came out true. -/
theorem le_of_one {a b : EReal} (h : BitVec.ofBool (decide (a ≤ b)) = 1#1) : a ≤ b := by
  by_contra hc
  rw [decide_eq_false hc] at h
  exact absurd h (by decide)

theorem finite_x (h : (fn (F := Ideal) X Y A).1 = fun _ => 1#1) (i : S2x1024x5120.Idx) : max (X i) (-(X i)) ≤ big :=
  le_of_one (congrFun h i)

theorem finite_dy (h : (fn (F := Ideal) X Y A).2 = fun _ => 1#1) (i : S2x1024x1536.Idx) : max (Y i) (-(Y i)) ≤ big :=
  le_of_one (congrFun h i)

end Cert.Quant
end
end
-- ==== Proof.Equation.lean ====
module
public import proofs.«01_k».proof.Proof.Closed
public import proofs.«01_k».proof.Proof.RefDw
public import proofs.«01_k».proof.Proof.Finite
@[expose] public section
set_option maxRecDepth 16384
noncomputable section

/-!
# The kernel's five results are the reference's

For arguments `X`, `Y`, `A` of the kernel with no absolute value in `X` or `Y` above the largest finite bf16 number.
-/

open Idealize.ShloMosaic Idealize.ShloMosaic.TcCoe Idealize.SL.Sem

namespace Cert.Equation
open Cert.KernelIdeal Cert.KernelIdeal.Gen Cert.Quant

variable (m : (ℓ : Loc nD τ sig) → Buf (Elt Ideal) ℓ) (ρ : Dev nD → PrngReg) (d : Dev nD)
  (X : FVec Ideal S2x1024x5120 .bf16) (hX : m ((d : Thread nD τ).loc main_arg0) = X)
  (Y : FVec Ideal S2x1024x1536 .bf16) (hY : m ((d : Thread nD τ).loc main_arg1) = Y)
  (A : FVec Ideal S1536x5120 .f32) (hA : m ((d : Thread nD τ).loc main_arg2) = A)
  (fX : ∀ i, max (X i) (-(X i)) ≤ big) (fY : ∀ i, max (Y i) (-(Y i)) ≤ big)

include hX fX in
/-- The codes of `x`. -/
theorem x_codes : (W4 m ρ d (Proc.devRef .tc main_v4) : FVec Ideal S2x1024x5120 .fp8e4m3) =
    (Cert.ReferenceIdeal.Gen.k0_pay5 (F := Ideal) X : FVec Ideal S2x1024x5120 .fp8e4m3) := by
  funext i
  obtain ⟨b, s, k, rfl⟩ : ∃ (b : Fin 2) (s : Fin 1024) (k : Fin 5120), i = ix3 b s k := ⟨i 0, i 1, i 2, eq_ix3 i⟩
  rw [Value.x_codes_at m ρ d X hX, kCode_eq cX loX hiX cX_small _ fun r => fX _]
  exact (Cert.ReferenceIdeal.Value.X.code_at X b s k).symm

include hX fX in
/-- The scales of `x`. -/
theorem x_scales : (W4 m ρ d (Proc.devRef .tc main_v5) : FVec Ideal S2x8x5120 .f32) =
    (Cert.ReferenceIdeal.Gen.k0_pay3 (F := Ideal) X : FVec Ideal S2x8x5120 .f32) := by
  funext i
  obtain ⟨b, g, k, rfl⟩ : ∃ (b : Fin 2) (g : Fin 8) (k : Fin 5120), i = ix3 b g k := ⟨i 0, i 1, i 2, eq_ix3 i⟩
  rw [Value.x_scales_at m ρ d X hX, kScale_eq cX cX_small _ fun r => fX _]
  exact (Cert.ReferenceIdeal.Value.X.scale_at X b g k).symm

include hY fY in
/-- The codes of `dy`. -/
theorem dy_codes : (W4 m ρ d (Proc.devRef .tc main_v6) : FVec Ideal S2x1024x1536 .fp8e5m2) =
    (Cert.ReferenceIdeal.Gen.k0_pay10 (F := Ideal) Y : FVec Ideal S2x1024x1536 .fp8e5m2) := by
  funext i
  obtain ⟨b, s, k, rfl⟩ : ∃ (b : Fin 2) (s : Fin 1024) (k : Fin 1536), i = ix3 b s k := ⟨i 0, i 1, i 2, eq_ix3 i⟩
  rw [Value.dy_codes_at m ρ d Y hY, kCode_eq cDy loDy hiDy cDy_small _ fun r => fY _]
  exact (Cert.ReferenceIdeal.Value.Dy.code_at Y b s k).symm

include hY fY in
/-- The scales of `dy`. -/
theorem dy_scales : (W4 m ρ d (Proc.devRef .tc main_v7) : FVec Ideal S2x8x1536 .f32) =
    (Cert.ReferenceIdeal.Gen.k0_pay8 (F := Ideal) Y : FVec Ideal S2x8x1536 .f32) := by
  funext i
  obtain ⟨b, g, k, rfl⟩ : ∃ (b : Fin 2) (g : Fin 8) (k : Fin 1536), i = ix3 b g k := ⟨i 0, i 1, i 2, eq_ix3 i⟩
  rw [Value.dy_scales_at m ρ d Y hY, kScale_eq cDy cDy_small _ fun r => fY _]
  exact (Cert.ReferenceIdeal.Value.Dy.scale_at Y b g k).symm

include hX hY hA fX fY in
/-- The accumulated product. -/
theorem dw : (W4 m ρ d (Proc.devRef .tc main_v3_0) : FVec Ideal S1536x5120 .f32) =
    (Cert.ReferenceIdeal.Gen.k0_pay1 (F := Ideal) (Cert.ReferenceIdeal.Gen.k0_pay6 X) (Cert.ReferenceIdeal.Gen.k0_pay11 Y) A : FVec Ideal S1536x5120 .f32) := by
  funext i
  obtain ⟨a, k, rfl⟩ : ∃ (a : Fin 1536) (k : Fin 5120), i = ix2 a k := ⟨i 0, i 1, eq_ix2 i⟩
  rw [Value.dw_at m ρ d X hX Y hY A hA]
  refine Eq.trans ?_ (Cert.ReferenceIdeal.Value.dw_at _ _ A a k).symm
  refine congrArg (A (ix2 a k) + ·) (Fin.sum_fin_congr fun n => ?_)
  rw [kWide_eq cDy loDy hiDy cDy_small _ (fun r => fY _), kWide_eq cX loX hiX cX_small _ fun r => fX _]
  exact (congrArg₂ (· * ·) (Cert.ReferenceIdeal.Value.Dy.wide_at Y n a _ _ (Value.batch_place n))
    (Cert.ReferenceIdeal.Value.X.wide_at X n k _ _ (Value.batch_place n))).symm

end Cert.Equation
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.ReferenceIdeal.Value
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- At the ideal instance, from finite `x` and `dy`, the kernel's five result arrays end equal to the reference's. -/
theorem algebraic : Cert.algebraic_KernelIdeal_ReferenceIdeal_pre_finite := by
  intro m ρ m' ρ' hpre hagree
  have fX := fun c => Cert.Quant.finite_x _ _ _ (hpre c).1
  have fY := fun c => Cert.Quant.finite_dy _ _ _ (hpre c).2
  refine ⟨fun c => Cert.KernelIdeal.Gen.W4 m ρ c (Proc.devRef .tc Cert.KernelIdeal.main_v3_0),
    fun c => Cert.KernelIdeal.Gen.W4 m ρ c (Proc.devRef .tc Cert.KernelIdeal.main_v4),
    fun c => Cert.KernelIdeal.Gen.W4 m ρ c (Proc.devRef .tc Cert.KernelIdeal.main_v5),
    fun c => Cert.KernelIdeal.Gen.W4 m ρ c (Proc.devRef .tc Cert.KernelIdeal.main_v6),
    fun c => Cert.KernelIdeal.Gen.W4 m ρ c (Proc.devRef .tc Cert.KernelIdeal.main_v7),
    Cert.KernelIdeal.Value.run m ρ, ?_⟩
  refine (θ_run Cert.ReferenceIdeal.defs _ _).mono (fun r h c => ?_) (Cert.ReferenceIdeal.Value.run (F := Ideal) m' ρ')
  obtain ⟨h0, h1, h2, h3, h4, k0, k1, k2⟩ := h c
  obtain ⟨a0, a1, a2⟩ := hagree c
  refine ⟨h0.trans ?_, h1.trans ?_, h2.trans ?_, h3.trans ?_, h4.trans ?_, k0, k1, k2⟩
  · rw [a0, a1, a2]
    exact (Cert.Equation.dw m ρ c _ rfl _ rfl _ rfl (fX c) (fY c)).symm
  · rw [a0]
    exact (Cert.Equation.x_codes m ρ c _ rfl (fX c)).symm
  · rw [a0]
    exact (Cert.Equation.x_scales m ρ c _ rfl (fX c)).symm
  · rw [a1]
    exact (Cert.Equation.dy_codes m ρ c _ rfl (fY c)).symm
  · rw [a1]
    exact (Cert.Equation.dy_scales m ρ c _ rfl (fY c)).symm

theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
